-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_u [hPre_finite_u : Cert.Pre_finite_u.Facts] (m : (ℓ : Loc Cert.OutIdeal.nD Cert.OutIdeal.τ Cert.OutIdeal.sig) → Buf (Elt Ideal) ℓ) : Prop :=
  ∀ c : Dev Cert.OutIdeal.nD,
    (Cert.Pre_finite_u.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_u [hPre_finite_u : Cert.Pre_finite_u.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_u.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutIdeal_pre_finite_u [hOutIdeal : Cert.OutIdeal.Facts] [hPre_finite_u : Cert.Pre_finite_u.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_u m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_OutRefIdeal_pre_finite_u [hOutRefIdeal : Cert.OutRefIdeal.Facts] [hPre_finite_u : Cert.Pre_finite_u.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_u m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v19)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v19) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v4_0)) (v1 : (c : Dev Cert.InIdeal.nD) → Buf (Elt Ideal) ((c.tc : Thread Cert.InIdeal.nD Cert.InIdeal.τ).loc Cert.InIdeal.main_v4_1)) (v2 : (c : Dev Cert.InIdeal.nD) → Buf (Elt Ideal) ((c.tc : Thread Cert.InIdeal.nD Cert.InIdeal.τ).loc Cert.InIdeal.main_v4_2)) (v3 : (c : Dev Cert.InIdeal.nD) → Buf (Elt Ideal) ((c.tc : Thread Cert.InIdeal.nD Cert.InIdeal.τ).loc Cert.InIdeal.main_v4_3)) (v4 : (c : Dev Cert.InIdeal.nD) → Buf (Elt Ideal) ((c.tc : Thread Cert.InIdeal.nD Cert.InIdeal.τ).loc Cert.InIdeal.main_v4_4)) (v5 : (c : Dev Cert.InIdeal.nD) → Buf (Elt Ideal) ((c.tc : Thread Cert.InIdeal.nD Cert.InIdeal.τ).loc Cert.InIdeal.main_v4_5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4_0) = v0 c
          ∧ r.2.mem ((c.tc : Thread Cert.InIdeal.nD Cert.InIdeal.τ).loc Cert.InIdeal.main_v4_1) = v1 c
          ∧ r.2.mem ((c.tc : Thread Cert.InIdeal.nD Cert.InIdeal.τ).loc Cert.InIdeal.main_v4_2) = v2 c
          ∧ r.2.mem ((c.tc : Thread Cert.InIdeal.nD Cert.InIdeal.τ).loc Cert.InIdeal.main_v4_3) = v3 c
          ∧ r.2.mem ((c.tc : Thread Cert.InIdeal.nD Cert.InIdeal.τ).loc Cert.InIdeal.main_v4_4) = v4 c
          ∧ r.2.mem ((c.tc : Thread Cert.InIdeal.nD Cert.InIdeal.τ).loc Cert.InIdeal.main_v4_5) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v23) = v0 c
          ∧ r.2.mem ((c.tc : Thread Cert.InRefIdeal.nD Cert.InRefIdeal.τ).loc Cert.InRefIdeal.main_v20) = v1 c
          ∧ r.2.mem ((c.tc : Thread Cert.InRefIdeal.nD Cert.InRefIdeal.τ).loc Cert.InRefIdeal.main_v21) = v2 c
          ∧ r.2.mem ((c.tc : Thread Cert.InRefIdeal.nD Cert.InRefIdeal.τ).loc Cert.InRefIdeal.main_v22) = v3 c
          ∧ r.2.mem ((c.tc : Thread Cert.InRefIdeal.nD Cert.InRefIdeal.τ).loc Cert.InRefIdeal.main_v24) = v4 c
          ∧ r.2.mem ((c.tc : Thread Cert.InRefIdeal.nD Cert.InRefIdeal.τ).loc Cert.InRefIdeal.main_v25) = v5 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Out_OutIdeal : Prop :=
  True

def algebraic_OutIdeal_OutRefIdeal_pre_finite_u [hOutIdeal : Cert.OutIdeal.Facts] [hOutRefIdeal : Cert.OutRefIdeal.Facts] [hPre_finite_u : Cert.Pre_finite_u.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_u m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v9)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v79) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hPre_finite : Cert.Pre_finite.Facts) (hPre_finite_u : Cert.Pre_finite_u.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutIdeal_pre_finite_u (hOutIdeal := hOutIdeal) (hPre_finite_u := hPre_finite_u)
    ∧ quiescent_OutRefIdeal (hOutRefIdeal := hOutRefIdeal)
    ∧ quiescent_OutRefIdeal_pre_finite_u (hOutRefIdeal := hOutRefIdeal) (hPre_finite_u := hPre_finite_u)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal_pre_finite_u (hOutIdeal := hOutIdeal) (hOutRefIdeal := hOutRefIdeal) (hPre_finite_u := hPre_finite_u)
-- ==== Pre_finite.lean ====
abbrev S4x2048x8x128 : Shape := ⟨4, ![4, 2048, 8, 128]⟩
abbrev S1x64 : Shape := ⟨2, ![1, 64]⟩
abbrev S1x128 : Shape := ⟨2, ![1, 128]⟩
abbrev S_ : Shape := ⟨0, ![]⟩

class Facts : Prop where
  bcast_S_S4x2048x8x128 : S_.BroadcastsInDim S4x2048x8x128 (![] : Fin 0 → Fin S4x2048x8x128.rank)
  bcast_S_S1x64 : S_.BroadcastsInDim S1x64 (![] : Fin 0 → Fin S1x64.rank)

variable [Facts]

def fn_part1 {F : FTy → Type} [FloatOps F] (main_arg6 : FVec F S1x64 .f32) (main_v2 : IVec S4x2048x8x128 1) (main_v5 : IVec S4x2048x8x128 1) (main_v8 : IVec S4x2048x8x128 1) (main_v11 : IVec S1x64 1) (main_v14 : IVec S1x64 1) (main_v17 : IVec S1x64 1) : IVec S4x2048x8x128 1 × IVec S4x2048x8x128 1 × IVec S4x2048x8x128 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  (main_v2, main_v5, main_v8, main_v11, main_v14, main_v17, main_v20)

def fn {F : FTy → Type} [FloatOps F] (main_arg0 : FVec F S4x2048x8x128 .f32) (main_arg1 : FVec F S4x2048x8x128 .f32) (main_arg2 : FVec F S4x2048x8x128 .f32) (main_arg3 : FVec F S1x64 .f32) (main_arg4 : FVec F S1x64 .f32) (main_arg5 : FVec F S1x64 .f32) (main_arg6 : FVec F S1x64 .f32) (main_arg7 : FVec F S1x128 .f32) : IVec S4x2048x8x128 1 × IVec S4x2048x8x128 1 × IVec S4x2048x8x128 1 × IVec S1x64 1 × IVec S1x64 1 × IVec S1x64 1 × IVec S1x64 1 :=
  let main_v0 : FVec F S4x2048x8x128 .f32 := Host.absf main_arg0
  let main_cst : FVec F S_ .f32 := constant S_ .f32 0x7F800000#32
  let main_v1 : FVec F S4x2048x8x128 .f32 := broadcastInDim S4x2048x8x128 ![] bcast_S_S4x2048x8x128 main_cst
  let main_v2 : IVec S4x2048x8x128 1 := cmpf .olt main_v0 main_v1
  let main_v3 : FVec F S4x2048x8x128 .f32 := Host.absf main_arg1
  let main_cst_0 : FVec F S_ .f32 := constant S_ .f32 0x7F800000#32
  let main_v4 : FVec F S4x2048x8x128 .f32 := broadcastInDim S4x2048x8x128 ![] bcast_S_S4x2048x8x128 main_cst_0
  let main_v5 : IVec S4x2048x8x128 1 := cmpf .olt main_v3 main_v4
  let main_v6 : FVec F S4x2048x8x128 .f32 := Host.absf main_arg2
  let main_cst_1 : FVec F S_ .f32 := constant S_ .f32 0x7F800000#32
  let main_v7 : FVec F S4x2048x8x128 .f32 := broadcastInDim S4x2048x8x128 ![] bcast_S_S4x2048x8x128 main_cst_1
  let main_v8 : IVec S4x2048x8x128 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_v2 main_v5 main_v8 main_v11 main_v14 main_v17
-- ==== Pre_finite_u.lean ====
abbrev S4x2048x2048 : Shape := ⟨3, ![4, 2048, 2048]⟩
abbrev S4x2048x1024 : Shape := ⟨3, ![4, 2048, 1024]⟩
abbrev S1x4x256x256 : Shape := ⟨4, ![1, 4, 256, 256]⟩
abbrev S1x1024 : Shape := ⟨2, ![1, 1024]⟩
abbrev S1x2048x2048 : Shape := ⟨3, ![1, 2048, 2048]⟩
abbrev S_ : Shape := ⟨0, ![]⟩

class Facts : Prop where
  bcast_S_S4x2048x1024 : S_.BroadcastsInDim S4x2048x1024 (![] : Fin 0 → Fin S4x2048x1024.rank)

variable [Facts]

def fn {F : FTy → Type} [FloatOps F] (main_arg0 : FVec F S4x2048x2048 .f32) (main_arg1 : FVec F S4x2048x1024 .bf16) (main_arg2 : FVec F S4x2048x1024 .f32) (main_arg3 : FVec F S1x4x256x256 .f32) (main_arg4 : FVec F S1x1024 .f32) (main_arg5 : FVec F S1x2048x2048 .f32) : IVec S4x2048x1024 1 :=
  let main_v0 : FVec F S4x2048x1024 .f32 := Host.absf main_arg2
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  main_v2
-- ==== Kernel.lean ====
abbrev S4x2048x8x128 : Shape := ⟨4, ![4, 2048, 8, 128]⟩
abbrev S1x64 : Shape := ⟨2, ![1, 64]⟩
abbrev S1x128 : Shape := ⟨2, ![1, 128]⟩
abbrev S8192x1024 : Shape := ⟨2, ![8192, 1024]⟩
abbrev S_ : Shape := ⟨0, ![]⟩
abbrev S64 : Shape := ⟨1, ![64]⟩
abbrev S128 : Shape := ⟨1, ![128]⟩
abbrev S2048x128 : Shape := ⟨2, ![2048, 128]⟩
abbrev S1 : Shape := ⟨1, ![1]⟩
abbrev S1x1 : Shape := ⟨2, ![1, 1]⟩
abbrev S256x128 : Shape := ⟨2, ![256, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S256 : Shape := ⟨1, ![256]⟩
abbrev S256x1 : Shape := ⟨2, ![256, 1]⟩
abbrev S512x512 : Shape := ⟨2, ![512, 512]⟩
abbrev S768x128 : Shape := ⟨2, ![768, 128]⟩
abbrev S512x768 : Shape := ⟨2, ![512, 768]⟩
abbrev S1024x128 : Shape := ⟨2, ![1024, 128]⟩
abbrev S512x1024 : Shape := ⟨2, ![512, 1024]⟩
abbrev S1280x128 : Shape := ⟨2, ![1280, 128]⟩
abbrev S512x1280 : Shape := ⟨2, ![512, 1280]⟩
abbrev S1536x128 : Shape := ⟨2, ![1536, 128]⟩
abbrev S512x1536 : Shape := ⟨2, ![512, 1536]⟩
abbrev S1792x128 : Shape := ⟨2, ![1792, 128]⟩
abbrev S512x1792 : Shape := ⟨2, ![512, 1792]⟩

abbrev nBuf : Space → Nat
  | .hbm => 28
  | .vmem => 13
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S128, .f32⟩
  | .hbm, ⟨26, _⟩ => ⟨S1x128, .f32⟩
  | .hbm, ⟨27, _⟩ => ⟨S8192x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x2048x8x128 : Shape := ⟨4, ![4, 2048, 8, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2048x8x64 : Shape := ⟨4, ![4, 2048, 8, 64]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S128 : Shape := ⟨1, ![128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S8192x1024 : Shape := ⟨2, ![8192, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .i32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S4x2048x8x64, .f32⟩
  | .hbm, ⟨30, _⟩ => ⟨S4x2048x8x64, .f32⟩
  | .hbm, ⟨31, _⟩ => ⟨S4x8x2048x2048, .f32⟩
  | .hbm, ⟨32, _⟩ => ⟨S_, .f32⟩
  | .hbm, ⟨33, _⟩ => ⟨S4x8x2048x2048, .f32⟩
  | .hbm, ⟨34, _⟩ => ⟨S4x8x2048x2048, .f32⟩
  | .hbm, ⟨35, _⟩ => ⟨S4x2048x8x64, .f32⟩
  | .hbm, ⟨36, _⟩ => ⟨S4x2048x8x64, .f32⟩
  | .hbm, ⟨37, _⟩ => ⟨S4x8x2048x2048, .f32⟩
  | .hbm, ⟨38, _⟩ => ⟨S_, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S_, .f32⟩
  | .hbm, ⟨43, _⟩ => ⟨S4x8x2048x2048, .i1⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S_, .f32⟩
  | .hbm, ⟨49, _⟩ => ⟨S4x8x2048, .f32⟩
  | .hbm, ⟨50, _⟩ => ⟨S4x8x2048, .f32⟩
  | .hbm, ⟨51, _⟩ => ⟨S4x8x2048x1, .f32⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S_, .f32⟩
  | .hbm, ⟨56, _⟩ => ⟨S4x8x2048, .f32⟩
  | .hbm, ⟨57, _⟩ => ⟨S4x8x2048x1, .f32⟩
  | .hbm, ⟨58, _⟩ => ⟨S4x8x2048x2048, .f32⟩
  | .hbm, ⟨59, _⟩ => ⟨S4x8x2048x2048, .f32⟩
  | .hbm, ⟨60, _⟩ => ⟨S_, .f32⟩
  | .hbm, ⟨61, _⟩ => ⟨S_, .f32⟩
  | .hbm, ⟨62, _⟩ => ⟨S4x8x2048x2048, .i1⟩
  | .hbm, ⟨63, _⟩ => ⟨S4x8x2048x2048, .f32⟩
  | .hbm, ⟨64, _⟩ => ⟨S4x8x2048x2048, .f32⟩
  | .hbm, ⟨65, _⟩ => ⟨S_, .f32⟩
  | .hbm, ⟨66, _⟩ => ⟨S4x8x2048, .f32⟩
  | .hbm, ⟨67, _⟩ => ⟨S_, .f32⟩
  | .hbm, ⟨68, _⟩ => ⟨S4x8x2048, .f32⟩
  | .hbm, ⟨69, _⟩ => ⟨S4x8x2048, .f32⟩
  | .hbm, ⟨70, _⟩ => ⟨S4x8x2048x1, .f32⟩
  | .hbm, ⟨71, _⟩ => ⟨S4x8x2048x2048, .f32⟩
  | .hbm, ⟨72, _⟩ => ⟨S4x8x2048x2048, .f32⟩
  | .hbm, ⟨73, _⟩ => ⟨S4x8x2048x2048, .f32⟩
  | .hbm, ⟨74, _⟩ => ⟨S_, .f32⟩
  | .hbm, ⟨75, _⟩ => ⟨S4x8x2048, .f32⟩
  | .hbm, ⟨76, _⟩ => ⟨S4x8x2048x1, .f32⟩
  | .hbm, ⟨77, _⟩ => ⟨S4x8x2048x2048, .f32⟩
  | .hbm, ⟨78, _⟩ => ⟨S4x8x2048x2048, .f32⟩
  | .hbm, ⟨79, _⟩ => ⟨S4x8x2048x2048, .f32⟩
  | .hbm, ⟨80, _⟩ => ⟨S4x8x2048x2048, .f32⟩
  | .hbm, ⟨81, _⟩ => ⟨S4x8x2048x2048, .f32⟩
  | .hbm, ⟨82, _⟩ => ⟨S4x8x128x2048, .f32⟩
  | .hbm, ⟨83, _⟩ => ⟨S4x2048x8x128, .f32⟩
  | .hbm, ⟨84, _⟩ => ⟨S128, .f32⟩
  | .hbm, ⟨85, _⟩ => ⟨S4x2048x8x128, .f32⟩
  | .hbm, ⟨86, _⟩ => ⟨S_, .f32⟩
  | .hbm, ⟨87, _⟩ => ⟨S4x2048x8, .f32⟩
  | .hbm, ⟨88, _⟩ => ⟨S4x2048x8x1, .f32⟩
  | .hbm, ⟨89, _⟩ => ⟨S_, .f32⟩
  | .hbm, ⟨90, _⟩ => ⟨S4x2048x8x1, .f32⟩
  | .hbm, ⟨91, _⟩ => ⟨S4x2048x8x1, .f32⟩
  | .hbm, ⟨92, _⟩ => ⟨S_, .f32⟩
  | .hbm, ⟨93, _⟩ => ⟨S4x2048x8x1, .f32⟩
  | .hbm, ⟨94, _⟩ => ⟨S4x2048x8x1, .f32⟩
  | .hbm, ⟨95, _⟩ => ⟨S4x2048x8x1, .f32⟩
  | .hbm, ⟨96, _⟩ => ⟨S4x2048x8x128, .f32⟩
  | .hbm, ⟨97, _⟩ => ⟨S4x2048x8x128, .f32⟩
  | .hbm, ⟨98, _⟩ => ⟨S1x1x1x128, .f32⟩
  | .hbm, ⟨99, _⟩ => ⟨S4x2048x8x128, .f32⟩
  | .hbm, ⟨100, _⟩ => ⟨S4x2048x8x128, .f32⟩
  | .hbm, ⟨101, _⟩ => ⟨S_, .f32⟩
  | .hbm, ⟨102, _⟩ => ⟨S4x2048x8x128, .f32⟩
  | .hbm, ⟨103, _⟩ => ⟨S4x2048x8x128, .f32⟩
  | .hbm, ⟨104, _⟩ => ⟨S8192x1024, .f32⟩
  | .hbm, ⟨105, _⟩ => ⟨S8192x1024, .bf16⟩
  | _, _ => ⟨S4x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== Ffn.lean ====
abbrev S4x2048x2048 : Shape := ⟨3, ![4, 2048, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S2048 : Shape := ⟨1, ![2048]⟩
abbrev S1x2048x384 : Shape := ⟨3, ![1, 2048, 384]⟩
abbrev S2048x384 : Shape := ⟨2, ![2048, 384]⟩
abbrev S1x384x2048 : Shape := ⟨3, ![1, 384, 2048]⟩
abbrev S384x2048 : Shape := ⟨2, ![384, 2048]⟩
abbrev S1x2048x5120 : Shape := ⟨3, ![1, 2048, 5120]⟩
abbrev S1x5120x2048 : Shape := ⟨3, ![1, 5120, 2048]⟩
abbrev S8192x2048 : Shape := ⟨2, ![8192, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S512x384 : Shape := ⟨2, ![512, 384]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 26
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S2048, .f32⟩
  | .hbm, ⟨6, _⟩ => ⟨S1x2048x384, .f32⟩
  | .hbm, ⟨7, _⟩ => ⟨S2048x384, .f32⟩
  | .hbm, ⟨8, _⟩ => ⟨S2048x384, .bf16⟩
  | .hbm, ⟨9, _⟩ => ⟨S1x2048x384, .f32⟩
  | .hbm, ⟨10, _⟩ => ⟨S2048x384, .f32⟩
  | .hbm, ⟨11, _⟩ => ⟨S2048x384, .bf16⟩
  | .hbm, ⟨12, _⟩ => ⟨S1x384x2048, .f32⟩
  | .hbm, ⟨13, _⟩ => ⟨S384x2048, .f32⟩
  | .hbm, ⟨14, _⟩ => ⟨S384x2048, .bf16⟩
  | .hbm, ⟨15, _⟩ => ⟨S1x2048x5120, .f32⟩
  | .hbm, ⟨16, _⟩ => ⟨S1x2048x5120, .bf16⟩
  | .hbm, ⟨17, _⟩ => ⟨S1x2048x5120, .f32⟩
  | .hbm, ⟨18, _⟩ => ⟨S1x2048x5120, .bf16⟩
  | .hbm, ⟨19, _⟩ => ⟨S1x5120x2048, .f32⟩
  | .hbm, ⟨20, _⟩ => ⟨S1x5120x2048, .bf16⟩
  | .hbm, ⟨21, _⟩ => ⟨S8192x2048, .f32⟩
  | .hbm, ⟨22, _⟩ => ⟨S2048, .f32⟩
  | .hbm, ⟨23, _⟩ => ⟨S1x2048, .f32⟩
  | .hbm, ⟨24, _⟩ => ⟨S1x2048, .f32⟩
  | .hbm, ⟨25, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S2048x384, .bf16⟩
  | .local _ .vmem, ⟨10, _⟩ => ⟨S2048x384, .bf16⟩
  | .local _ .vmem, ⟨11, _⟩ => ⟨S384x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S4x2048x2048 : Shape := ⟨3, ![4, 2048, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x5504 : Shape := ⟨3, ![4, 2048, 5504]⟩
abbrev S8192x2048 : Shape := ⟨2, ![8192, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S2048, .f32⟩
  | .hbm, ⟨6, _⟩ => ⟨S2048, .f32⟩
  | .hbm, ⟨7, _⟩ => ⟨S2048x5504, .f32⟩
  | .hbm, ⟨8, _⟩ => ⟨S2048x5504, .f32⟩
  | .hbm, ⟨9, _⟩ => ⟨S5504x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S4x2048x5504, .f32⟩
  | .hbm, ⟨27, _⟩ => ⟨S4x2048x5504, .f32⟩
  | .hbm, ⟨28, _⟩ => ⟨S4x2048x5504, .f32⟩
  | .hbm, ⟨29, _⟩ => ⟨S_, .f32⟩
  | .hbm, ⟨30, _⟩ => ⟨S4x2048x5504, .f32⟩
  | .hbm, ⟨31, _⟩ => ⟨S4x2048x5504, .f32⟩
  | .hbm, ⟨32, _⟩ => ⟨S_, .f32⟩
  | .hbm, ⟨33, _⟩ => ⟨S4x2048x5504, .f32⟩
  | .hbm, ⟨34, _⟩ => ⟨S4x2048x5504, .f32⟩
  | .hbm, ⟨35, _⟩ => ⟨S4x2048x5504, .f32⟩
  | .hbm, ⟨36, _⟩ => ⟨S4x2048x5504, .f32⟩
  | .hbm, ⟨37, _⟩ => ⟨S4x2048x5504, .f32⟩
  | .hbm, ⟨38, _⟩ => ⟨S4x2048x2048, .f32⟩
  | .hbm, ⟨39, _⟩ => ⟨S_, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x1, .f32⟩
  | .hbm, ⟨54, _⟩ => ⟨S4x2048x2048, .f32⟩
  | .hbm, ⟨55, _⟩ => ⟨S4x2048x2048, .f32⟩
  | .hbm, ⟨56, _⟩ => ⟨S1x1x2048, .f32⟩
  | .hbm, ⟨57, _⟩ => ⟨S4x2048x2048, .f32⟩
  | .hbm, ⟨58, _⟩ => ⟨S4x2048x2048, .f32⟩
  | .hbm, ⟨59, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== In.lean ====
abbrev S4x2048x2048 : Shape := ⟨3, ![4, 2048, 2048]⟩
abbrev S1x2048 : Shape := ⟨2, ![1, 2048]⟩
abbrev S1x2048x4096 : Shape := ⟨3, ![1, 2048, 4096]⟩
abbrev S8192x2048 : Shape := ⟨2, ![8192, 2048]⟩
abbrev S2048 : Shape := ⟨1, ![2048]⟩
abbrev S8192x1024 : Shape := ⟨2, ![8192, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1x2048x1024 : Shape := ⟨3, ![1, 2048, 1024]⟩
abbrev S2048x1024 : Shape := ⟨2, ![2048, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x4096, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S1x2048x4096, .bf16⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x4096, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InRefIdeal.lean ====
abbrev S4x2048x2048 : Shape := ⟨3, ![4, 2048, 2048]⟩
abbrev S1x2048 : Shape := ⟨2, ![1, 2048]⟩
abbrev S1x2048x4096 : Shape := ⟨3, ![1, 2048, 4096]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x4096 : Shape := ⟨2, ![2048, 4096]⟩
abbrev S4x2048x4096 : Shape := ⟨3, ![4, 2048, 4096]⟩
abbrev S8192x4096 : Shape := ⟨2, ![8192, 4096]⟩
abbrev S8192x1024 : Shape := ⟨2, ![8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x4096, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x4096, .f32⟩
  | .hbm, ⟨21, _⟩ => ⟨S4x2048x4096, .f32⟩
  | .hbm, ⟨22, _⟩ => ⟨S8192x4096, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x1024, .bf16⟩
  | .hbm, ⟨32, _⟩ => ⟨S8192x1024, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Out.lean ====
abbrev S4x2048x2048 : Shape := ⟨3, ![4, 2048, 2048]⟩
abbrev S4x2048x1024 : Shape := ⟨3, ![4, 2048, 1024]⟩
abbrev S1x4x256x256 : Shape := ⟨4, ![1, 4, 256, 256]⟩
abbrev S1x1024 : Shape := ⟨2, ![1, 1024]⟩
abbrev S1x2048x2048 : Shape := ⟨3, ![1, 2048, 2048]⟩
abbrev S8192x2048 : Shape := ⟨2, ![8192, 2048]⟩
abbrev S8192x1024 : Shape := ⟨2, ![8192, 1024]⟩
abbrev S4x256x256 : Shape := ⟨3, ![4, 256, 256]⟩
abbrev S1024 : Shape := ⟨1, ![1024]⟩
abbrev S2048x2048 : Shape := ⟨2, ![2048, 2048]⟩
abbrev S512x2048 : Shape := ⟨2, ![512, 2048]⟩
abbrev S512x1024 : Shape := ⟨2, ![512, 1024]⟩
abbrev S16x1024 : Shape := ⟨2, ![16, 1024]⟩
abbrev S528x1024 : Shape := ⟨2, ![528, 1024]⟩
abbrev S1024x2048 : Shape := ⟨2, ![1024, 2048]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 16
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x1024, .f32⟩
  | .hbm, ⟨3, _⟩ => ⟨S1x4x256x256, .f32⟩
  | .hbm, ⟨4, _⟩ => ⟨S1x1024, .f32⟩
  | .hbm, ⟨5, _⟩ => ⟨S1x2048x2048, .f32⟩
  | .hbm, ⟨6, _⟩ => ⟨S8192x2048, .f32⟩
  | .hbm, ⟨7, _⟩ => ⟨S8192x1024, .bf16⟩
  | .hbm, ⟨8, _⟩ => ⟨S8192x1024, .f32⟩
  | .hbm, ⟨9, _⟩ => ⟨S4x256x256, .f32⟩
  | .hbm, ⟨10, _⟩ => ⟨S4x256x256, .bf16⟩
  | .hbm, ⟨11, _⟩ => ⟨S1024, .f32⟩
  | .hbm, ⟨12, _⟩ => ⟨S1x1024, .f32⟩
  | .hbm, ⟨13, _⟩ => ⟨S2048x2048, .f32⟩
  | .hbm, ⟨14, _⟩ => ⟨S2048x2048, .bf16⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S4x256x256, .bf16⟩
  | .local _ .vmem, ⟨9, _⟩ => ⟨S1x1024, .f32⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | .local _ .vmem, ⟨13, _⟩ => ⟨S528x1024, .f32⟩
  | .local _ .vmem, ⟨14, _⟩ => ⟨S512x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutRefIdeal.lean ====
abbrev S4x2048x2048 : Shape := ⟨3, ![4, 2048, 2048]⟩
abbrev S4x2048x1024 : Shape := ⟨3, ![4, 2048, 1024]⟩
abbrev S1x4x256x256 : Shape := ⟨4, ![1, 4, 256, 256]⟩
abbrev S1x1024 : Shape := ⟨2, ![1, 1024]⟩
abbrev S1x2048x2048 : Shape := ⟨3, ![1, 2048, 2048]⟩
abbrev S_ : Shape := ⟨0, ![]⟩
abbrev S4x15x1024 : Shape := ⟨3, ![4, 15, 1024]⟩
abbrev S4x256x256 : Shape := ⟨3, ![4, 256, 256]⟩
abbrev S1024 : Shape := ⟨1, ![1024]⟩
abbrev S4x2063x1024 : Shape := ⟨3, ![4, 2063, 1024]⟩
abbrev S4x1x1024 : Shape := ⟨3, ![4, 1, 1024]⟩
abbrev S4x2064x1024 : Shape := ⟨3, ![4, 2064, 1024]⟩
abbrev S2048 : Shape := ⟨1, ![2048]⟩
abbrev S4x2048x256 : Shape := ⟨3, ![4, 2048, 256]⟩
abbrev S1x2048x1 : Shape := ⟨3, ![1, 2048, 1]⟩
abbrev S4x2048x1x256 : Shape := ⟨4, ![4, 2048, 1, 256]⟩
abbrev S4x2048x4x256 : Shape := ⟨4, ![4, 2048, 4, 256]⟩
abbrev S4x256x4x2048 : Shape := ⟨4, ![4, 256, 4, 2048]⟩
abbrev S1x1x1024 : Shape := ⟨3, ![1, 1, 1024]⟩
abbrev S2048x2048 : Shape := ⟨2, ![2048, 2048]⟩
abbrev S8192x2048 : Shape := ⟨2, ![8192, 2048]⟩

abbrev nBuf : Space → Nat
  | .hbm => 99
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x1024, .f32⟩
  | .hbm, ⟨3, _⟩ => ⟨S1x4x256x256, .f32⟩
  | .hbm, ⟨4, _⟩ => ⟨S1x1024, .f32⟩
  | .hbm, ⟨5, _⟩ => ⟨S1x2048x2048, .f32⟩
  | .hbm, ⟨6, _⟩ => ⟨S_, .f32⟩
  | .hbm, ⟨7, _⟩ => ⟨S4x15x1024, .f32⟩
  | .hbm, ⟨8, _⟩ => ⟨S4x256x256, .f32⟩
  | .hbm, ⟨9, _⟩ => ⟨S1024, .f32⟩
  | .hbm, ⟨10, _⟩ => ⟨S4x2063x1024, .f32⟩
  | .hbm, ⟨11, _⟩ => ⟨S_, .f32⟩
  | .hbm, ⟨12, _⟩ => ⟨S4x1x1024, .f32⟩
  | .hbm, ⟨13, _⟩ => ⟨S_, .f32⟩
  | .hbm, ⟨14, _⟩ => ⟨S_, .f32⟩
  | .hbm, ⟨15, _⟩ => ⟨S4x2063x1024, .f32⟩
  | .hbm, ⟨16, _⟩ => ⟨S4x2064x1024, .f32⟩
  | .hbm, ⟨17, _⟩ => ⟨S4x2048x1024, .f32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S4x2048x256, .f32⟩
  | .hbm, ⟨23, _⟩ => ⟨S4x2048x256, .f32⟩
  | .hbm, ⟨24, _⟩ => ⟨S4x2048x256, .f32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .f32⟩
  | .hbm, ⟨32, _⟩ => ⟨S1x2048x1, .f32⟩
  | .hbm, ⟨33, _⟩ => ⟨S4x2048x256, .f32⟩
  | .hbm, ⟨34, _⟩ => ⟨S4x2048x256, .f32⟩
  | .hbm, ⟨35, _⟩ => ⟨S4x2048x256, .f32⟩
  | .hbm, ⟨36, _⟩ => ⟨S4x2048x256, .f32⟩
  | .hbm, ⟨37, _⟩ => ⟨S4x2048x256, .f32⟩
  | .hbm, ⟨38, _⟩ => ⟨S4x2048x256, .f32⟩
  | .hbm, ⟨39, _⟩ => ⟨S4x2048x256, .f32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .f32⟩
  | .hbm, ⟨47, _⟩ => ⟨S1x2048x1, .f32⟩
  | .hbm, ⟨48, _⟩ => ⟨S4x2048x256, .f32⟩
  | .hbm, ⟨49, _⟩ => ⟨S4x2048x256, .f32⟩
  | .hbm, ⟨50, _⟩ => ⟨S4x2048x256, .f32⟩
  | .hbm, ⟨51, _⟩ => ⟨S4x2048x256, .f32⟩
  | .hbm, ⟨52, _⟩ => ⟨S4x2048x256, .f32⟩
  | .hbm, ⟨53, _⟩ => ⟨S4x2048x256, .f32⟩
  | .hbm, ⟨54, _⟩ => ⟨S4x2048x256, .f32⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .f32⟩
  | .hbm, ⟨62, _⟩ => ⟨S1x2048x1, .f32⟩
  | .hbm, ⟨63, _⟩ => ⟨S4x2048x256, .f32⟩
  | .hbm, ⟨64, _⟩ => ⟨S4x2048x256, .f32⟩
  | .hbm, ⟨65, _⟩ => ⟨S4x2048x256, .f32⟩
  | .hbm, ⟨66, _⟩ => ⟨S4x2048x256, .f32⟩
  | .hbm, ⟨67, _⟩ => ⟨S4x2048x256, .f32⟩
  | .hbm, ⟨68, _⟩ => ⟨S4x2048x256, .f32⟩
  | .hbm, ⟨69, _⟩ => ⟨S4x2048x256, .f32⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .f32⟩
  | .hbm, ⟨77, _⟩ => ⟨S1x2048x1, .f32⟩
  | .hbm, ⟨78, _⟩ => ⟨S4x2048x256, .f32⟩
  | .hbm, ⟨79, _⟩ => ⟨S4x2048x256, .f32⟩
  | .hbm, ⟨80, _⟩ => ⟨S4x2048x256, .f32⟩
  | .hbm, ⟨81, _⟩ => ⟨S4x2048x256, .f32⟩
  | .hbm, ⟨82, _⟩ => ⟨S4x2048x1x256, .f32⟩
  | .hbm, ⟨83, _⟩ => ⟨S4x2048x1x256, .f32⟩
  | .hbm, ⟨84, _⟩ => ⟨S4x2048x1x256, .f32⟩
  | .hbm, ⟨85, _⟩ => ⟨S4x2048x1x256, .f32⟩
  | .hbm, ⟨86, _⟩ => ⟨S4x2048x4x256, .f32⟩
  | .hbm, ⟨87, _⟩ => ⟨S4x256x4x2048, .f32⟩
  | .hbm, ⟨88, _⟩ => ⟨S4x2048x4x256, .f32⟩
  | .hbm, ⟨89, _⟩ => ⟨S4x2048x1024, .f32⟩
  | .hbm, ⟨90, _⟩ => ⟨S1x1x1024, .f32⟩
  | .hbm, ⟨91, _⟩ => ⟨S4x2048x1024, .f32⟩
  | .hbm, ⟨92, _⟩ => ⟨S4x2048x1024, .f32⟩
  | .hbm, ⟨93, _⟩ => ⟨S4x2048x1024, .f32⟩
  | .hbm, ⟨94, _⟩ => ⟨S4x2048x2048, .f32⟩
  | .hbm, ⟨95, _⟩ => ⟨S2048x2048, .f32⟩
  | .hbm, ⟨96, _⟩ => ⟨S4x2048x2048, .f32⟩
  | .hbm, ⟨97, _⟩ => ⟨S4x2048x2048, .f32⟩
  | .hbm, ⟨98, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Proof.Attn.Tile.lean ====
/- One 256-row query tile of the prompt attention as a function of its operands, for any number `n` of
   earlier key rows, and that function read at an index.

   The kernel stacks the two halves of a query head (each padded with zeros to the whole head) into 512
   rows, takes the scores of these rows against the tile's own keys (masked to the causal triangle) and
   against all earlier keys, exponentiates both against the common row maximum, and multiplies the two
   products with the values by the reciprocal of the row sum. -/
module

public import Idealize.ShloMosaic.PureOps
public import Idealize.ShloMosaic.PureOps.Ideal
public import Idealize.ShloMosaic.PureOps.Ideal.Laws
public import Idealize.ShloMosaic.PureOps.IdealRules
public import Idealize.ShloMosaic.Lib.MatmulPlain
public import Idealize.ShloMosaic.Lib.Pointwise
public import Idealize.ShloMosaic.Lib.ValueIdx
public import Idealize.ShloMosaic.Lib.Pipeline.Value

@[expose] public section

noncomputable section

namespace Cert.Attn

open Idealize.ShloMosaic
open scoped BigOperators

/-- A matrix of extended reals. -/
abbrev Mat (a b : ℕ) (φ : FTy) := FVec Ideal ⟨2, ![a, b]⟩ φ

/-- The greatest entry of a finite family, `⊥` for the empty one. -/
def vmax {ι : Type} [Fintype ι] (f : ι → EReal) : EReal := Finset.univ.fold max ⊥ f

/-- The f32 pattern of minus infinity. -/
theorem ofBits_neg_inf : Ideal.ofBits .f32 0xFF800000#32 = ⊥ := by simp [Ideal.ofBits, Ideal.ieee]

/-- The row maximum of a matrix, as a column. -/
def rowMax {n : ℕ} (x : Mat 512 n .f32) (hr : (⟨2, ![512, n]⟩ : Shape).Reduces [1] ⟨1, ![512]⟩)
    (hc : (⟨1, ![512]⟩ : Shape).ShapeCasts ⟨2, ![512, 1]⟩) : Mat 512 1 .f32 :=
  shapeCast ⟨2, ![512, 1]⟩ (multiReduction (F := Ideal) .maximumf [1] ⟨1, ![512]⟩ x 0xFF800000#32 hr (.inl rfl) rfl) hc

/-- The row sum of a matrix, as a column. -/
def rowSum {n : ℕ} (x : Mat 512 n .f32) (hr : (⟨2, ![512, n]⟩ : Shape).Reduces [1] ⟨1, ![512]⟩)
    (hc : (⟨1, ![512]⟩ : Shape).ShapeCasts ⟨2, ![512, 1]⟩) : Mat 512 1 .f32 :=
  shapeCast ⟨2, ![512, 1]⟩ (multiReduction (F := Ideal) .add [1] ⟨1, ![512]⟩ x 0x00000000#32 hr (.inl rfl) rfl) hc

theorem rowMax_apply {n : ℕ} (x : Mat 512 n .f32) (hr hc) (j : Fin 512) (z : Fin 1) :
    rowMax x hr hc (ix2 j z) = vmax fun k : Fin n => x (ix2 j k) := by
  obtain rfl : z = 0 := Subsingleton.elim _ _
  unfold rowMax vmax
  pointwise
  rw [← ofBits_neg_inf]

theorem rowSum_apply {n : ℕ} (x : Mat 512 n .f32) (hr hc) (j : Fin 512) (z : Fin 1) :
    rowSum x hr hc (ix2 j z) = ∑ k : Fin n, x (ix2 j k) := by
  obtain rfl : z = 0 := Subsingleton.elim _ _
  unfold rowSum
  pointwise

/-- A column repeated along the rows. -/
theorem spread_apply {n : ℕ} (hn : n ≠ 1) (x : Mat 512 1 .f32) (hb : (⟨2, ![512, 1]⟩ : Shape).Broadcasts ⟨2, ![512, n]⟩)
    (j : Fin 512) (k : Fin n) : broadcastTo ⟨2, ![512, n]⟩ x hb (ix2 j k) = x (ix2 j 0) := by
  pointwise

/-- The product of a matrix with the transpose of another, onto zeros. -/
theorem matmulT_apply {M K N : ℕ} {φ₁ φ₂ : FTy} (x : Mat M K φ₁) (y : Mat N K φ₂) (r : Fin M) (c : Fin N) :
    matmul (F := Ideal) (DotDims.transposedRhs M K N) none x y (constant ⟨2, ![M, N]⟩ .f32 0x00000000#32) (ix2 r c)
      = ∑ k : Fin K, x (ix2 r k) * y (ix2 c k) := by
  refine (Ideal.matmul_transposedRhs_apply none x y _ r c).trans ?_
  rw [show (constant (F := Ideal) ⟨2, ![M, N]⟩ .f32 0x00000000#32) (ValueIdx.ix2 r c) = 0 from Ideal.ofBits_zero_f32,
    zero_add]
  simp only [ix2_eq_valueIdx]

/-- The product of two matrices, onto zeros. -/
theorem matmulP_apply {M K N : ℕ} {φ₁ φ₂ : FTy} (x : Mat M K φ₁) (y : Mat K N φ₂) (r : Fin M) (c : Fin N) :
    matmul (F := Ideal) (DotDims.plain M K N) none x y (constant ⟨2, ![M, N]⟩ .f32 0x00000000#32) (ix2 r c)
      = ∑ k : Fin K, x (ix2 r k) * y (ix2 k c) := by
  refine (Ideal.matmul_plain_apply none x y _ r c).trans ?_
  rw [show (constant (F := Ideal) ⟨2, ![M, N]⟩ .f32 0x00000000#32) (ValueIdx.ix2 r c) = 0 from Ideal.ofBits_zero_f32,
    zero_add]
  simp only [ix2_eq_valueIdx]

section Tile

variable {n : ℕ}
/- The shape facts of the operations, at `n` earlier rows. -/
variable (hrn : (⟨2, ![512, n]⟩ : Shape).Reduces [1] ⟨1, ![512]⟩)
  (hr : (⟨2, ![512, 256]⟩ : Shape).Reduces [1] ⟨1, ![512]⟩)
  (hc : (⟨1, ![512]⟩ : Shape).ShapeCasts ⟨2, ![512, 1]⟩)
  (hbn : (⟨2, ![512, 1]⟩ : Shape).Broadcasts ⟨2, ![512, n]⟩)
  (hb : (⟨2, ![512, 1]⟩ : Shape).Broadcasts ⟨2, ![512, 256]⟩)
  (hbd : (⟨2, ![512, 1]⟩ : Shape).Broadcasts ⟨2, ![512, 128]⟩)
  (hkn : (⟨2, ![n, 128]⟩ : Shape).ShapeCasts ⟨2, ![n, 128]⟩)
  (hk : (⟨2, ![256, 128]⟩ : Shape).ShapeCasts ⟨2, ![256, 128]⟩)

/-- The masked scores against the tile's own keys; a masked entry reads `fill`. -/
def sDiag (fill : Ideal .f32) (mask : IVec ⟨2, ![512, 256]⟩ 1) (qz : Mat 512 128 .bf16) (kd : Mat 256 128 .bf16) :
    Mat 512 256 .f32 :=
  select mask (matmul (F := Ideal) (DotDims.transposedRhs 512 128 256) none qz (shapeCast ⟨2, ![256, 128]⟩ kd hk)
    (constant ⟨2, ![512, 256]⟩ .f32 0x00000000#32)) (broadcast ⟨2, ![512, 256]⟩ fill)

/-- The scores against the earlier keys. -/
def sPast (qz : Mat 512 128 .bf16) (kp : Mat n 128 .bf16) : Mat 512 n .f32 :=
  matmul (F := Ideal) (DotDims.transposedRhs 512 128 n) none qz (shapeCast ⟨2, ![n, 128]⟩ kp hkn)
    (constant ⟨2, ![512, n]⟩ .f32 0x00000000#32)

/-- The exponentials of a row's scores less the column `m`. -/
def expo (s : Mat 512 n .f32) (m : Mat 512 1 .f32) : Mat 512 n .f32 :=
  exp (subf s (broadcastTo ⟨2, ![512, n]⟩ m hbn))

/-- The weights' product with the values. -/
def weigh (p : Mat 512 n .f32) (v : Mat n 128 .bf16) (ht : FTy.bits .bf16 < FTy.bits .f32) : Mat 512 128 .f32 :=
  matmul (F := Ideal) (DotDims.plain 512 n 128) none (truncf .bf16 p ht) (shapeCast ⟨2, ![n, 128]⟩ v hkn)
    (constant ⟨2, ![512, 128]⟩ .f32 0x00000000#32)

/-- The product with the values times the reciprocal of the row sum. -/
def norml (acc : Mat 512 128 .f32) (l : Mat 512 1 .f32) : Mat 512 128 .f32 :=
  mulf acc (broadcastTo ⟨2, ![512, 128]⟩ (divf (broadcast ⟨2, ![512, 1]⟩ (Scalar.ofBits (F := Ideal) .f32 0x3F800000#32)) l) hbd)

/-- A tile with `n` earlier rows: the 512 rows of attention outputs (both halves). -/
def tileRows (ht : FTy.bits .bf16 < FTy.bits .f32) (fill : Ideal .f32) (mask : IVec ⟨2, ![512, 256]⟩ 1) (qz : Mat 512 128 .bf16)
    (kd vd : Mat 256 128 .bf16) (kp vp : Mat n 128 .bf16) : Mat 512 128 .f32 :=
  have sD := sDiag hk fill mask qz kd
  have sP := sPast hkn qz kp
  have m := maximumf (rowMax sD hr hc) (rowMax sP hrn hc)
  have pD := expo hb sD m
  have pP := expo hbn sP m
  norml hbd (addf (weigh hk pD vd ht) (weigh hkn pP vp ht)) (addf (rowSum pD hr hc) (rowSum pP hrn hc))

/-- The first tile has no earlier rows. -/
def tileRows0 (ht : FTy.bits .bf16 < FTy.bits .f32) (fill : Ideal .f32) (mask : IVec ⟨2, ![512, 256]⟩ 1) (qz : Mat 512 128 .bf16)
    (kd vd : Mat 256 128 .bf16) : Mat 512 128 .f32 :=
  have sD := sDiag hk fill mask qz kd
  have m := rowMax sD hr hc
  have pD := expo hb sD m
  norml hbd (weigh hk pD vd ht) (rowSum pD hr hc)

/-- The two halves' difference, the second half's rows times `lam`. -/
def halves (h0 : (⟨2, ![512, 128]⟩ : Shape).Slices ![0, 0] ⟨2, ![256, 128]⟩)
    (h1 : (⟨2, ![512, 128]⟩ : Shape).Slices ![256, 0] ⟨2, ![256, 128]⟩)
    (hl : (⟨2, ![1, 1]⟩ : Shape).Broadcasts ⟨2, ![256, 128]⟩) (lam : Mat 1 1 .f32) (o : Mat 512 128 .f32) : Mat 256 128 .f32 :=
  subf (extractStridedSlice ⟨2, ![256, 128]⟩ ![0, 0] o h0)
    (mulf (broadcastTo ⟨2, ![256, 128]⟩ lam hl) (extractStridedSlice ⟨2, ![256, 128]⟩ ![256, 0] o h1))

theorem sDiag_apply (fill mask qz kd) (j : Fin 512) (c : Fin 256) :
    sDiag hk fill mask qz kd (ix2 j c)
      = Scalar.select (mask (ix2 j c)) (∑ e : Fin 128, qz (ix2 j e) * kd (ix2 c e)) fill := by
  unfold sDiag
  rw [shapeCast_self]
  show Scalar.select _ (matmul (F := Ideal) (DotDims.transposedRhs 512 128 256) none qz kd _ (ix2 j c)) _ = _
  rw [matmulT_apply]; rfl

theorem sPast_apply (qz : Mat 512 128 .bf16) (kp : Mat n 128 .bf16) (j : Fin 512) (c : Fin n) :
    sPast hkn qz kp (ix2 j c) = ∑ e : Fin 128, qz (ix2 j e) * kp (ix2 c e) := by
  unfold sPast
  rw [shapeCast_self, matmulT_apply]

theorem expo_apply (hn : n ≠ 1) (s : Mat 512 n .f32) (m : Mat 512 1 .f32) (j : Fin 512) (c : Fin n) :
    expo hbn s m (ix2 j c) = Ideal.exp (s (ix2 j c) - m (ix2 j 0)) := by
  unfold expo
  rw [← spread_apply hn m hbn j c]; rfl

theorem weigh_apply (p : Mat 512 n .f32) (v : Mat n 128 .bf16) (ht) (j : Fin 512) (d : Fin 128) :
    weigh hkn p v ht (ix2 j d) = ∑ c : Fin n, p (ix2 j c) * v (ix2 c d) := by
  unfold weigh
  rw [shapeCast_self, matmulP_apply]; rfl

theorem ofBits_one : Ideal.ofBits .f32 0x3F800000#32 = 1 := by
  simp [Ideal.ofBits, Ideal.ieee, -EReal.coe_mul]; norm_num

theorem norml_apply (acc l) (j : Fin 512) (d : Fin 128) :
    norml hbd acc l (ix2 j d) = acc (ix2 j d) * Ideal.div 1 (l (ix2 j 0)) := by
  unfold norml
  show acc (ix2 j d) * broadcastTo (⟨2, ![512, 128]⟩ : Shape) _ hbd (ix2 j d) = _
  rw [spread_apply (by decide)]
  rw [← ofBits_one]; rfl

theorem halves_apply (h0 h1 hl lam o) (r : Fin 256) (d : Fin 128) :
    halves h0 h1 hl lam o (ix2 r d)
      = o (ix2 (⟨r.val, by omega⟩ : Fin 512) d) - lam (ix2 0 0) * o (ix2 (⟨256 + r.val, by omega⟩ : Fin 512) d) := by
  unfold halves
  pointwise

/-! ## The softmax-weighted values of one row -/

/-- One row's output: the weights of the scores `x` (own keys) and `y` (earlier keys) against their common maximum, times
    the values `u`, `w`, over the weights' sum. -/
def rowOut {n : ℕ} (x u : Fin 256 → EReal) (y w : Fin n → EReal) : EReal :=
  (∑ c, Ideal.exp (x c - max (vmax x) (vmax y)) * u c + ∑ c, Ideal.exp (y c - max (vmax x) (vmax y)) * w c)
    * Ideal.div 1 (∑ c, Ideal.exp (x c - max (vmax x) (vmax y)) + ∑ c, Ideal.exp (y c - max (vmax x) (vmax y)))

theorem tileRows_apply (hn : n ≠ 1) (ht fill mask qz kd vd) (kp vp : Mat n 128 .bf16) (j : Fin 512) (d : Fin 128) :
    tileRows hrn hr hc hbn hb hbd hkn hk ht fill mask qz kd vd kp vp (ix2 j d)
      = rowOut (fun c => Scalar.select (mask (ix2 j c)) (∑ e : Fin 128, qz (ix2 j e) * kd (ix2 c e)) fill) (fun c => vd (ix2 c d))
          (fun c : Fin n => ∑ e : Fin 128, qz (ix2 j e) * kp (ix2 c e)) (fun c => vp (ix2 c d)) := by
  unfold tileRows rowOut
  simp only [norml_apply, ValueIdx.addf_apply, ValueIdx.maximumf_apply, weigh_apply, rowSum_apply, expo_apply hbn hn,
    expo_apply hb (by decide : (256 : ℕ) ≠ 1), rowMax_apply, sDiag_apply, sPast_apply]

theorem tileRows0_apply (ht fill mask qz kd vd) (j : Fin 512) (d : Fin 128) :
    tileRows0 hr hc hb hbd hk ht fill mask qz kd vd (ix2 j d)
      = rowOut (n := 0) (fun c => Scalar.select (mask (ix2 j c)) (∑ e : Fin 128, qz (ix2 j e) * kd (ix2 c e)) fill)
          (fun c => vd (ix2 c d)) Fin.elim0 Fin.elim0 := by
  unfold tileRows0 rowOut
  have h0 : ∀ x : EReal, max x (vmax (Fin.elim0 : Fin 0 → EReal)) = x := fun x => by simp [vmax]
  simp only [norml_apply, weigh_apply, rowSum_apply, h0, Finset.univ_eq_empty, Finset.sum_empty, add_zero,
    expo_apply hb (by decide : (256 : ℕ) ≠ 1), rowMax_apply, sDiag_apply]

end Tile

end Cert.Attn

end
-- ==== Proof.Attn.Tiles.lean ====
module
public import proofs.«01_k».proof.Proof.Gen.KernelIdeal.Frame
public import proofs.«01_k».proof.Proof.Attn.Tile

/-! # The kernel's eight stored tiles are the generic tile

The block a grid step writes is eight tiles of 256 rows; each is the generic tile of `Attn/Tile.lean` over the rows of the
query, key and value blocks it loads, followed by the row norm. -/

set_option maxRecDepth 16384

@[expose] public section
noncomputable section

namespace Cert.Attn

open Idealize.ShloMosaic Cert.KernelIdeal Cert.KernelIdeal.Gen

/-- The mask's entry. -/
abbrev fill : Ideal .f32 := Named.named κ "mask" 0xF149F2CA#32

/-- A stored tile with `n` earlier rows. -/
def piece {n : ℕ} (hrn : (⟨2, ![512, n]⟩ : Shape).Reduces [1] S512) (hbn : S512x1.Broadcasts ⟨2, ![512, n]⟩)
    (hkn : (⟨2, ![n, 128]⟩ : Shape).ShapeCasts ⟨2, ![n, 128]⟩) (lam : Mat 1 1 .f32) (q kd vd : Mat 256 128 .bf16)
    (kp vp : Mat n 128 .bf16) (g : Mat 1 128 .f32) : Mat 256 128 .bf16 :=
  k0_pay18 (F := Ideal) (halves slices_S512x128_o0_0_S256x128 slices_S512x128_o256_0_S256x128 broadcasts_S1x1_S256x128 lam
    (tileRows hrn reduces_S512x256_S512 shapeCasts_S512_S512x1 hbn broadcasts_S512x1_S512x256 broadcasts_S512x1_S512x128 hkn
      shapeCasts_S256x128_S256x128 bitsLt_bf16_f32 fill k0_pay3 (k0_pay4 q) kd vd kp vp)) g

/-- The first stored tile. -/
def piece0 (lam : Mat 1 1 .f32) (q kd vd : Mat 256 128 .bf16) (g : Mat 1 128 .f32) : Mat 256 128 .bf16 :=
  k0_pay18 (F := Ideal) (halves slices_S512x128_o0_0_S256x128 slices_S512x128_o256_0_S256x128 broadcasts_S1x1_S256x128 lam
    (tileRows0 reduces_S512x256_S512 shapeCasts_S512_S512x1 broadcasts_S512x1_S512x256 broadcasts_S512x1_S512x128
      shapeCasts_S256x128_S256x128 bitsLt_bf16_f32 fill k0_pay3 (k0_pay4 q) kd vd)) g

/-- The block a grid step writes, by its tiles. -/
theorem out_eq (x0 x1 x2 x3 : Vec Ideal S1x64 .f32) (x4 : Vec Ideal S1x128 .f32) (x5 x6 x7 : Vec Ideal S2048x128 .bf16) :
    out0_8 x0 x1 x2 x3 x4 x5 x6 x7 =
      have lam := k0_pay2 (View.ld x0 r0_0) (View.ld x1 r0_0) (View.ld x2 r0_0) (View.ld x3 r0_0)
      have g := View.ld x4 r0_2
      View.canon [
        ⟨r0_14, piece reduces_S512x1792_S512 broadcasts_S512x1_S512x1792 shapeCasts_S1792x128_S1792x128 lam (View.ld x5 r0_14)
          (View.ld x6 r0_14) (View.ld x7 r0_14) (View.ld x6 r0_15) (View.ld x7 r0_15) g⟩,
        ⟨r0_12, piece reduces_S512x1536_S512 broadcasts_S512x1_S512x1536 shapeCasts_S1536x128_S1536x128 lam (View.ld x5 r0_12)
          (View.ld x6 r0_12) (View.ld x7 r0_12) (View.ld x6 r0_13) (View.ld x7 r0_13) g⟩,
        ⟨r0_10, piece reduces_S512x1280_S512 broadcasts_S512x1_S512x1280 shapeCasts_S1280x128_S1280x128 lam (View.ld x5 r0_10)
          (View.ld x6 r0_10) (View.ld x7 r0_10) (View.ld x6 r0_11) (View.ld x7 r0_11) g⟩,
        ⟨r0_8, piece reduces_S512x1024_S512 broadcasts_S512x1_S512x1024 shapeCasts_S1024x128_S1024x128 lam (View.ld x5 r0_8)
          (View.ld x6 r0_8) (View.ld x7 r0_8) (View.ld x6 r0_9) (View.ld x7 r0_9) g⟩,
        ⟨r0_6, piece reduces_S512x768_S512 broadcasts_S512x1_S512x768 shapeCasts_S768x128_S768x128 lam (View.ld x5 r0_6)
          (View.ld x6 r0_6) (View.ld x7 r0_6) (View.ld x6 r0_7) (View.ld x7 r0_7) g⟩,
        ⟨r0_4, piece reduces_S512x512_S512 broadcasts_S512x1_S512x512 shapeCasts_S512x128_S512x128 lam (View.ld x5 r0_4)
          (View.ld x6 r0_4) (View.ld x7 r0_4) (View.ld x6 r0_5) (View.ld x7 r0_5) g⟩,
        ⟨r0_3, piece reduces_S512x256_S512 broadcasts_S512x1_S512x256 shapeCasts_S256x128_S256x128 lam (View.ld x5 r0_3)
          (View.ld x6 r0_3) (View.ld x7 r0_3) (View.ld x6 r0_1) (View.ld x7 r0_1) g⟩,
        ⟨r0_1, piece0 lam (View.ld x5 r0_1) (View.ld x6 r0_1) (View.ld x7 r0_1) g⟩] := by
  unfold_out out0_8
  rfl

end Cert.Attn

end
-- ==== Proof.Attn.Soft.lean ====
module
public import proofs.«01_k».proof.Proof.Attn.Tile

/-! # Softmax rows: the split form and the difference of two

`soft s v` is a softmax-weighted sum in the kernel's form (the product with the values first, the reciprocal of the weights' sum
after). It does not change when the row is split into the tile's own keys, the earlier keys and masked keys, and the difference of
two such rows is the row of differences of normalised weights when scores and values are real. -/

@[expose] public section
noncomputable section

namespace Cert.Attn

open Idealize.ShloMosaic
open scoped BigOperators

variable {ι : Type} [Fintype ι]

theorem vmax_eq_sup (f : ι → EReal) : vmax f = Finset.univ.sup f := rfl

theorem le_vmax (f : ι → EReal) (k : ι) : f k ≤ vmax f := Finset.le_sup (f := f) (Finset.mem_univ k)

theorem vmax_le {f : ι → EReal} {a : EReal} (h : ∀ k, f k ≤ a) : vmax f ≤ a := Finset.sup_le fun k _ => h k

/-- The weights of the scores `s` times the values `v`, over the weights' sum. -/
def soft (s v : ι → EReal) : EReal :=
  (∑ k, Ideal.exp (s k - vmax s) * v k) * Ideal.div 1 (∑ k, Ideal.exp (s k - vmax s))

theorem exp_bot_sub (m : EReal) : Ideal.exp (⊥ - m) = 0 := by
  rw [sub_eq_add_neg, EReal.bot_add]; rfl

/-- A sum over `Fin N` whose terms vanish from `lo + 256` on. -/
theorem sum_split {N lo : ℕ} (hN : lo + 256 ≤ N) (f : Fin N → EReal) (hf : ∀ k, lo + 256 ≤ k.val → f k = 0) :
    ∑ k, f k = ∑ c : Fin 256, f ⟨lo + c.val, by omega⟩ + ∑ c : Fin lo, f ⟨c.val, by omega⟩ := by
  obtain ⟨M, rfl⟩ := Nat.exists_eq_add_of_le hN
  rw [Fin.sum_univ_add, Fin.sum_univ_add, Finset.sum_eq_zero (s := Finset.univ (α := Fin M)), add_zero, add_comm]
  · rfl
  · intro k _
    exact hf _ (by simp)

theorem vmax_split {N lo : ℕ} (hN : lo + 256 ≤ N) (s : Fin N → EReal) (hs : ∀ k, lo + 256 ≤ k.val → s k = ⊥) :
    vmax s = max (vmax fun c : Fin 256 => s ⟨lo + c.val, by omega⟩) (vmax fun c : Fin lo => s ⟨c.val, by omega⟩) := by
  apply le_antisymm
  · refine vmax_le fun k => ?_
    by_cases h1 : k.val < lo
    · exact le_max_of_le_right (le_vmax (fun c : Fin lo => s ⟨c.val, by omega⟩) ⟨k.val, h1⟩)
    · by_cases h2 : k.val < lo + 256
      · refine le_max_of_le_left ?_
        have := le_vmax (fun c : Fin 256 => s ⟨lo + c.val, by omega⟩) ⟨k.val - lo, by omega⟩
        have e : (⟨lo + (k.val - lo), by omega⟩ : Fin N) = k := Fin.ext (by simp; omega)
        simpa only [e] using this
      · rw [hs k (by omega)]; exact bot_le
  · exact max_le (vmax_le fun c => le_vmax s _) (vmax_le fun c => le_vmax s _)

/-- The tile's form of a row is the whole row's. -/
theorem rowOut_eq {N lo : ℕ} (hN : lo + 256 ≤ N) (s v : Fin N → EReal) (hs : ∀ k, lo + 256 ≤ k.val → s k = ⊥) :
    rowOut (fun c : Fin 256 => s ⟨lo + c.val, by omega⟩) (fun c => v ⟨lo + c.val, by omega⟩)
      (fun c : Fin lo => s ⟨c.val, by omega⟩) (fun c => v ⟨c.val, by omega⟩) = soft s v := by
  unfold rowOut soft
  rw [← vmax_split hN s hs, sum_split hN (fun k => Ideal.exp (s k - vmax s) * v k), sum_split hN (fun k => Ideal.exp (s k - vmax s))]
  · intro k hk; rw [hs k hk, exp_bot_sub]
  · intro k hk; rw [hs k hk, exp_bot_sub, zero_mul]

/-- The weights of a row of scores, none `⊤` and one not `⊥`, are nonnegative reals with a positive sum. -/
theorem weights (s : ι → EReal) (hs : ∀ k, s k ≠ ⊤) (t : ι) (ht : s t ≠ ⊥) :
    ∃ p : ι → ℝ, (∀ k, Ideal.exp (s k - vmax s) = (p k : EReal)) ∧ 0 < ∑ k, p k := by
  have hM : vmax s ≠ ⊥ := fun h => ht (le_bot_iff.1 (h ▸ le_vmax s t))
  have hT : vmax s ≠ ⊤ := by
    have : vmax s < ⊤ := by
      rw [vmax_eq_sup, Finset.sup_lt_iff (by exact bot_lt_top)]
      exact fun k _ => lt_top_iff_ne_top.2 (hs k)
    exact this.ne
  obtain ⟨μ, hμ⟩ : ∃ μ : ℝ, vmax s = μ := ⟨_, (EReal.coe_toReal hT hM).symm⟩
  rw [hμ]
  have key : ∀ k, ∃ q : ℝ, Ideal.exp (s k - μ) = (q : EReal) ∧ 0 ≤ q ∧ (s k ≠ ⊥ → 0 < q) := by
    intro k
    by_cases hb : s k = ⊥
    · exact ⟨0, by rw [hb, exp_bot_sub]; rfl, le_refl _, fun h => (h hb).elim⟩
    · obtain ⟨x, hx⟩ : ∃ x : ℝ, s k = x := ⟨_, (EReal.coe_toReal (hs k) hb).symm⟩
      refine ⟨Real.exp (x - μ), ?_, (Real.exp_pos _).le, fun _ => Real.exp_pos _⟩
      rw [hx, ← EReal.coe_sub]; rfl
  choose p hp h0 h1 using key
  exact ⟨p, hp, Finset.sum_pos' (fun k _ => h0 k) ⟨t, Finset.mem_univ t, h1 t ht⟩⟩

theorem coe_sum (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

/-- The difference of two rows is the row of the differences of normalised weights. -/
theorem soft_diff (s₁ s₂ v : ι → EReal) (lam : EReal) (h₁ : ∀ k, s₁ k ≠ ⊤) (h₂ : ∀ k, s₂ k ≠ ⊤) (t : ι) (t₁ : s₁ t ≠ ⊥)
    (t₂ : s₂ t ≠ ⊥) (hv : ∀ k, ∃ r : ℝ, v k = r) (hl : ∃ r : ℝ, lam = r) :
    soft s₁ v - lam * soft s₂ v
      = ∑ k, v k * (Ideal.div (Ideal.exp (s₁ k - vmax s₁)) (∑ k, Ideal.exp (s₁ k - vmax s₁))
          - lam * Ideal.div (Ideal.exp (s₂ k - vmax s₂)) (∑ k, Ideal.exp (s₂ k - vmax s₂))) := by
  obtain ⟨p, hp, pp⟩ := weights s₁ h₁ t t₁
  obtain ⟨q, hq, qq⟩ := weights s₂ h₂ t t₂
  choose u hu using hv
  obtain ⟨l, rfl⟩ := hl
  unfold soft
  simp only [hp, hq, hu, ← coe_sum, ← EReal.coe_mul, Ideal.div_coe pp.ne', Ideal.div_coe qq.ne', ← EReal.coe_sub,
    ← EReal.coe_one]
  congr 1
  rw [Finset.sum_mul, Finset.sum_mul, Finset.mul_sum, ← Finset.sum_sub_distrib]
  refine Finset.sum_congr rfl fun k _ => ?_
  ring

end Cert.Attn

end
-- ==== Proof.Attn.KernelRow.lean ====
module
public import proofs.«01_k».proof.Proof.Attn.Tiles
public import proofs.«01_k».proof.Proof.Attn.Soft
public import Idealize.ShloMosaic.Lib.WordCmp

/-! # One row of a stored tile, read at an index -/

set_option maxRecDepth 16384

@[expose] public section
noncomputable section

namespace Cert.Attn

open Idealize.ShloMosaic Cert.KernelIdeal Cert.KernelIdeal.Gen
open scoped BigOperators

/-- Lane `e` of half `b` of a head. -/
abbrev lane (b : Fin 2) (e : Fin 64) : Fin 128 := ⟨64 * b.val + e.val, by omega⟩

/-- The product of half `b` of a query row with half `b` of a key row. -/
def dotH (b : Fin 2) (q k : Fin 128 → EReal) : EReal := ∑ e : Fin 64, q (lane b e) * k (lane b e)

/-- The causal scores of query row `t`. -/
def score (Q K : Fin 2048 → Fin 128 → EReal) (b : Fin 2) (t k : Fin 2048) : EReal :=
  if k ≤ t then dotH b (Q t) (K k) else ⊥

/-- The root-mean-square norm of a row of 128 lanes with the gain of lane `d` and the constant factor 0.8. -/
def normRow (o : Fin 128 → EReal) (g : EReal) (d : Fin 128) : EReal :=
  o d * Ideal.rsqrt (Ideal.div (∑ x, o x * o x) (Ideal.ofBits .f32 0x43000000#32) + Ideal.ofBits .f32 0x3727C5AC#32) * g
    * Ideal.ofBits .f32 0x3F4CCCCD#32

/-- The weight of the second half, from the four vectors. -/
def lamOf (a b c d : Fin 64 → EReal) : EReal :=
  Ideal.exp (∑ x, a x * b x) - Ideal.exp (∑ x, c x * d x) + Ideal.ofBits .f32 0x3E4CCCCD#32

theorem fill_eq : fill = (⊥ : EReal) := IdealRules.named_const.ideal_named_scalar _ _ _ _ rfl

theorem select_le (a b : ℕ) (x y : EReal) : Scalar.select (BitVec.ofBool (decide (a ≤ b))) x y = if a ≤ b then x else y := by
  by_cases h : a ≤ b <;> simp [h, Scalar.select]

theorem qz_apply (q : Mat 256 128 .bf16) (b : Fin 2) (r : Fin 256) (e : Fin 128) :
    k0_pay4 (F := Ideal) q (ix2 ⟨256 * b.val + r.val, by omega⟩ e) = if e.val / 64 = b.val then q (ix2 r e) else 0 := by
  unfold_payloads
  pointwise
  rw [WordCmp.cmpi_slt_ofNat (by have := e.isLt; norm_num; omega) (by norm_num), WordCmp.cmpi_sge_ofNat (by have := e.isLt; norm_num; omega) (by norm_num)]
  match b with
  | ⟨0, _⟩ =>
    simp only [Nat.mul_zero, Nat.zero_add, r.isLt, dif_pos]
    by_cases h : e.val < 64
    · simp [h, Scalar.select, Nat.div_eq_of_lt]
    · have : ¬ e.val / 64 = 0 := by omega
      simp [h, Scalar.select]
  | ⟨1, _⟩ =>
    have h0 : ¬ 256 * 1 + r.val < 256 := by omega
    have h1 : 256 * 1 + r.val - 256 = r.val := by omega
    simp only [h0, dif_neg, not_false_eq_true, h1]
    by_cases h : 64 ≤ e.val
    · have : e.val / 64 = 1 := by omega
      simp [h, Scalar.select, this]
    · have : ¬ e.val / 64 = 1 := by omega
      simp [h, Scalar.select, this]

theorem mask_apply (b : Fin 2) (r c : Fin 256) :
    k0_pay3 (ix2 ⟨256 * b.val + r.val, by omega⟩ c) = BitVec.ofBool (decide (c.val ≤ r.val)) := by
  unfold_payloads
  pointwise
  rw [WordCmp.cmpi_sge_ofNat (by norm_num; omega) (by norm_num)]
  match b with
  | ⟨0, _⟩ =>
    have h0 : ¬ 256 ≤ 256 * 0 + r.val := by omega
    simp only [h0, decide_false]
    show IntOp.cmpi .sle _ (BitVec.ofNat 32 (256 * 0 + r.val)) = _
    rw [WordCmp.cmpi_sle_ofNat (by norm_num; omega) (by norm_num; omega)]
    simp
  | ⟨1, _⟩ =>
    have h0 : 256 ≤ 256 * 1 + r.val := by omega
    have h1 : IntOp.subi (BitVec.ofNat 32 (256 * 1 + r.val)) 256#32 = BitVec.ofNat 32 r.val := by
      apply BitVec.eq_of_toNat_eq
      show (BitVec.ofNat 32 (256 * 1 + r.val) - 256#32).toNat = _
      rw [BitVec.toNat_sub]; simp; omega
    simp only [h0, decide_true, h1]
    show IntOp.cmpi .sle _ (BitVec.ofNat 32 r.val) = _
    rw [WordCmp.cmpi_sle_ofNat (by norm_num; omega) (by norm_num; omega)]

theorem norm_apply (o : Mat 256 128 .f32) (g : Mat 1 128 .f32) (r : Fin 256) (d : Fin 128) :
    k0_pay18 (F := Ideal) o g (ix2 r d) = normRow (fun e => o (ix2 r e)) (g (ix2 0 d)) d := by
  unfold normRow
  unfold_payloads
  pointwise

theorem lam_apply (a b c d : Mat 1 64 .f32) :
    k0_pay2 (F := Ideal) a b c d (ix2 0 0)
      = lamOf (fun e => a (ix2 0 e)) (fun e => b (ix2 0 e)) (fun e => c (ix2 0 e)) (fun e => d (ix2 0 e)) := by
  unfold lamOf
  unfold_payloads
  pointwise

/-- A sum over the lanes of a head by its two halves. -/
theorem sum_lanes (f : Fin 128 → EReal) : ∑ e, f e = ∑ e, f (lane 0 e) + ∑ e, f (lane 1 e) := by
  refine (Fin.sum_univ_add (a := 64) (b := 64) f).trans ?_
  congr 1

/-- The zero-padded row's product with a key row is the half's product. -/
theorem dot_qz (q : Mat 256 128 .bf16) (b : Fin 2) (r : Fin 256) (k : Fin 128 → EReal) :
    ∑ e : Fin 128, k0_pay4 (F := Ideal) q (ix2 ⟨256 * b.val + r.val, by omega⟩ e) * k e = dotH b (fun e => q (ix2 r e)) k := by
  unfold dotH
  simp only [qz_apply]
  rw [sum_lanes]
  have h : ∀ (a : Fin 2) (e : Fin 64), (lane a e).val / 64 = a.val := fun a e => by simp only; omega
  simp only [h]
  match b with
  | ⟨0, _⟩ => simp
  | ⟨1, _⟩ => simp

section
variable (Q K V : Fin 2048 → Fin 128 → EReal)

/-- Row `t`'s output lanes before the norm. -/
def headRow (lam : EReal) (t : Fin 2048) (e : Fin 128) : EReal :=
  soft (score Q K 0 t) (fun k => V k e) - lam * soft (score Q K 1 t) (fun k => V k e)

/-- Row `t`'s output. -/
def headOut (lam : EReal) (g : Fin 128 → EReal) (t : Fin 2048) (d : Fin 128) : EReal :=
  normRow (headRow Q K V lam t) (g d) d

theorem diag_score {n : ℕ} (hn : n + 256 ≤ 2048) (q kd : Mat 256 128 .bf16) (hq : ∀ r e, q (ix2 r e) = Q ⟨n + r.val, by omega⟩ e)
    (hk : ∀ r e, kd (ix2 r e) = K ⟨n + r.val, by omega⟩ e) (b : Fin 2) (r c : Fin 256) :
    Scalar.select (k0_pay3 (ix2 ⟨256 * b.val + r.val, by omega⟩ c))
      (∑ e : Fin 128, k0_pay4 (F := Ideal) q (ix2 ⟨256 * b.val + r.val, by omega⟩ e) * kd (ix2 c e)) fill
      = score Q K b ⟨n + r.val, by omega⟩ ⟨n + c.val, by omega⟩ := by
  rw [dot_qz, mask_apply, fill_eq, select_le]
  unfold score
  simp only [hq, hk, Fin.le_def, Nat.add_le_add_iff_left]

theorem masked_score {n : ℕ} (hn : n + 256 ≤ 2048) (b : Fin 2) (r : Fin 256) (k : Fin 2048) (h : n + 256 ≤ k.val) :
    score Q K b ⟨n + r.val, by omega⟩ k = ⊥ := by
  unfold score
  rw [if_neg]
  rw [Fin.le_def]; simp only; omega

theorem tile_row {n : ℕ} (h1 : n ≠ 1) (hn : n + 256 ≤ 2048) (hrn hr hc hbn hb hbd hkn hk ht) (q kd vd : Mat 256 128 .bf16)
    (kp vp : Mat n 128 .bf16) (hq : ∀ r e, q (ix2 r e) = Q ⟨n + r.val, by omega⟩ e)
    (hkd : ∀ r e, kd (ix2 r e) = K ⟨n + r.val, by omega⟩ e) (hvd : ∀ r e, vd (ix2 r e) = V ⟨n + r.val, by omega⟩ e)
    (hkp : ∀ r e, kp (ix2 r e) = K ⟨r.val, by omega⟩ e) (hvp : ∀ r e, vp (ix2 r e) = V ⟨r.val, by omega⟩ e)
    (b : Fin 2) (r : Fin 256) (d : Fin 128) :
    tileRows (n := n) hrn hr hc hbn hb hbd hkn hk ht fill k0_pay3 (k0_pay4 (F := Ideal) q) kd vd kp vp
      (ix2 ⟨256 * b.val + r.val, by omega⟩ d) = soft (score Q K b ⟨n + r.val, by omega⟩) (fun k => V k d) := by
  rw [tileRows_apply _ _ _ _ _ _ _ _ h1, ← rowOut_eq hn _ _ (fun k h => masked_score Q K hn b r k h)]
  simp only [diag_score Q K hn q kd hq hkd, hvd, hvp, hkp]
  simp only [dot_qz, hq]
  congr 1
  funext c
  unfold score
  rw [if_pos]
  rw [Fin.le_def]; simp only; omega

theorem tile_row0 (hr hc hb hbd hk ht) (q kd vd : Mat 256 128 .bf16) (hq : ∀ r e, q (ix2 r e) = Q ⟨0 + r.val, by omega⟩ e)
    (hkd : ∀ r e, kd (ix2 r e) = K ⟨0 + r.val, by omega⟩ e) (hvd : ∀ r e, vd (ix2 r e) = V ⟨0 + r.val, by omega⟩ e)
    (b : Fin 2) (r : Fin 256) (d : Fin 128) :
    tileRows0 hr hc hb hbd hk ht fill k0_pay3 (k0_pay4 (F := Ideal) q) kd vd
      (ix2 ⟨256 * b.val + r.val, by omega⟩ d) = soft (score Q K b ⟨0 + r.val, by omega⟩) (fun k => V k d) := by
  rw [tileRows0_apply, ← rowOut_eq (lo := 0) (by norm_num) _ _ (fun k h => masked_score Q K (by norm_num) b r k h)]
  simp only [diag_score Q K (n := 0) (by norm_num) q kd hq hkd, hvd]
  congr 1 <;> exact funext fun c => c.elim0

end

end Cert.Attn

end
-- ==== Proof.Attn.RefRead.lean ====
module
public import proofs.«01_k».proof.Proof.Gen.ReferenceIdeal.Read
public import proofs.«01_k».proof.Proof.Attn.KernelRow

/-! # The reference's result, read at an index -/

set_option maxRecDepth 16384

@[expose] public section
noncomputable section

namespace Cert.Attn

open Idealize.ShloMosaic Cert.ReferenceIdeal Cert.ReferenceIdeal.Gen Cert.ReferenceIdeal.Read
open scoped BigOperators

variable (x0 x1 x2 : (⟨S4x2048x8x128, .f32⟩ : BufTy).Contents (Elt Ideal)) (x3 x4 x5 x6 : (⟨S1x64, .f32⟩ : BufTy).Contents (Elt Ideal))
  (x7 : (⟨S1x128, .f32⟩ : BufTy).Contents (Elt Ideal))

/-- The row of one array for batch `b`, position `t` and head `h`. -/
def row (x : (⟨S4x2048x8x128, .f32⟩ : BufTy).Contents (Elt Ideal)) (b : Fin 4) (h : Fin 8) (t : Fin 2048) (e : Fin 128) : EReal :=
  x (ix4 b t h e)

/-- The reference's masked scores of half `z`, the scale applied to the inner product. -/
def rscore (b : Fin 4) (h : Fin 8) (z : Fin 2) (t k : Fin 2048) : EReal :=
  if k ≤ t then dotH z (row x0 b h t) (row x1 b h k) * Ideal.ofBits .f32 0x3E000000#32 else ⊥

/-- One softmax weight. -/
def wgt (s : Fin 2048 → EReal) (k : Fin 2048) : EReal := Ideal.div (Ideal.exp (s k - vmax s)) (∑ j, Ideal.exp (s j - vmax s))

theorem mask_le (t k : Fin 2048) : val_main_v17 (F := Ideal) (ix2 t k) = BitVec.ofBool (decide (k.val ≤ t.val)) := by
  rw [val_main_v17_apply, val_main_v15_apply, val_main_v16_apply, val_main_v13_apply, val_main_v14_apply, val_main_v12_apply,
    val_main_v12_apply]
  exact WordCmp.cmpi_sle_ofNat (show k.val < 2 ^ 31 by omega) (show t.val < 2 ^ 31 by omega)

theorem score_0 (b : Fin 4) (h : Fin 8) (t k : Fin 2048) : val_main_v28 (F := Ideal) x0 x1 (ix4 b h t k) = rscore x0 x1 b h 0 t k := by
  rw [val_main_v28_apply, val_main_call0_v1_apply, val_main_call0_v2_apply, val_main_call0_v0_apply, val_main_v22_apply, val_main_v20_apply, val_main_v21_apply]
  rw [show idx_main_call0_v1 (ix4 b h t k) = ix2 t k from funext fun a => match a with | ⟨0, _⟩ => rfl | ⟨1, _⟩ => rfl]
  rw [mask_le, select_le, val_main_cst_4_apply, val_main_cst_2_apply]
  unfold rscore
  refine if_congr Iff.rfl ?_ ofBits_neg_inf
  refine congrArg (· * Ideal.ofBits .f32 0x3E000000#32) (Finset.sum_congr rfl fun e _ => ?_)
  rw [val_main_v18_apply, val_main_v19_apply]
  exact congrArg₂ (· * ·)
    (congrArg x0 (funext fun a => match a with | ⟨0, _⟩ => rfl | ⟨1, _⟩ => rfl | ⟨2, _⟩ => rfl | ⟨3, _⟩ => Fin.ext (by simp [lane])))
    (congrArg x1 (funext fun a => match a with | ⟨0, _⟩ => rfl | ⟨1, _⟩ => rfl | ⟨2, _⟩ => rfl | ⟨3, _⟩ => Fin.ext (by simp [lane])))

theorem score_1 (b : Fin 4) (h : Fin 8) (t k : Fin 2048) : val_main_v40 (F := Ideal) x0 x1 (ix4 b h t k) = rscore x0 x1 b h 1 t k := by
  rw [val_main_v40_apply, val_main_call1_v1_apply, val_main_call1_v2_apply, val_main_call1_v0_apply, val_main_v27_apply, val_main_v25_apply, val_main_v26_apply]
  rw [show idx_main_call1_v1 (ix4 b h t k) = ix2 t k from funext fun a => match a with | ⟨0, _⟩ => rfl | ⟨1, _⟩ => rfl]
  rw [mask_le, select_le, val_main_cst_8_apply, val_main_cst_3_apply]
  unfold rscore
  refine if_congr Iff.rfl ?_ ofBits_neg_inf
  refine congrArg (· * Ideal.ofBits .f32 0x3E000000#32) (Finset.sum_congr rfl fun e _ => ?_)
  rw [val_main_v23_apply, val_main_v24_apply]
  exact congrArg₂ (· * ·)
    (congrArg x0 (funext fun a => match a with | ⟨0, _⟩ => rfl | ⟨1, _⟩ => rfl | ⟨2, _⟩ => rfl | ⟨3, _⟩ => Fin.ext (by simp [lane])))
    (congrArg x1 (funext fun a => match a with | ⟨0, _⟩ => rfl | ⟨1, _⟩ => rfl | ⟨2, _⟩ => rfl | ⟨3, _⟩ => Fin.ext (by simp [lane])))

theorem max_0 (b : Fin 4) (h : Fin 8) (t k : Fin 2048) : val_main_v33 (F := Ideal) x0 x1 (ix4 b h t k) = vmax (rscore x0 x1 b h 0 t) := by
  rw [val_main_v33_apply, val_main_v32_apply, val_main_v31_apply, val_main_v30_apply, val_main_cst_6_apply]
  rw [show idx_main_v32 (idx_main_v33 (ix4 b h t k)) = ix3 b h t from funext fun a => match a with | ⟨0, _⟩ => rfl | ⟨1, _⟩ => rfl | ⟨2, _⟩ => rfl]
  have e : val_main_v29 (F := Ideal) x0 x1 (ix3 b h t) = vmax (rscore x0 x1 b h 0 t) := by
    rw [← show (fun k => val_main_v28 (F := Ideal) x0 x1 (ix4 b h t k)) = rscore x0 x1 b h 0 t from funext fun k => score_0 x0 x1 b h t k]
    unfold val_main_v29
    generalize val_main_v28 (F := Ideal) x0 x1 = y
    pointwise
    rw [val_main_cst_5_apply]
    unfold vmax
    rw [← ofBits_neg_inf]
    rfl
  rw [e]
  show max (Ideal.ofBits .f32 0xFF800000#32) _ = _
  rw [ofBits_neg_inf]
  exact max_eq_right bot_le

theorem expo_0 (b : Fin 4) (h : Fin 8) (t k : Fin 2048) :
    val_main_v35 (F := Ideal) x0 x1 (ix4 b h t k) = Ideal.exp (rscore x0 x1 b h 0 t k - vmax (rscore x0 x1 b h 0 t)) := by
  rw [val_main_v35_apply, val_main_v34_apply, max_0, score_0]
  rfl

theorem weight_0 (b : Fin 4) (h : Fin 8) (t k : Fin 2048) : val_main_v39 (F := Ideal) x0 x1 (ix4 b h t k) = wgt (rscore x0 x1 b h 0 t) k := by
  rw [val_main_v39_apply, val_main_v38_apply, val_main_v37_apply, val_main_v36_apply, expo_0]
  rw [show idx_main_v37 (idx_main_v38 (ix4 b h t k)) = ix3 b h t from funext fun a => match a with | ⟨0, _⟩ => rfl | ⟨1, _⟩ => rfl | ⟨2, _⟩ => rfl]
  rw [show (∑ j, val_main_v35 (F := Ideal) x0 x1 (idx_main_v36 (ix3 b h t) j)) = ∑ j, Ideal.exp (rscore x0 x1 b h 0 t j - vmax (rscore x0 x1 b h 0 t)) from
    Finset.sum_congr rfl fun j _ => (congrArg _ (funext fun a => match a with | ⟨0, _⟩ => rfl | ⟨1, _⟩ => rfl | ⟨2, _⟩ => rfl | ⟨3, _⟩ => rfl)).trans (expo_0 x0 x1 b h t j)]
  rw [val_main_cst_7_apply, show (FloatOps.ofBits (F := Ideal) .f32 0x00000000#32 : EReal) = 0 from Ideal.ofBits_zero_f32, zero_add]
  rfl

theorem max_1 (b : Fin 4) (h : Fin 8) (t k : Fin 2048) : val_main_v45 (F := Ideal) x0 x1 (ix4 b h t k) = vmax (rscore x0 x1 b h 1 t) := by
  rw [val_main_v45_apply, val_main_v44_apply, val_main_v43_apply, val_main_v42_apply, val_main_cst_10_apply]
  rw [show idx_main_v44 (idx_main_v45 (ix4 b h t k)) = ix3 b h t from funext fun a => match a with | ⟨0, _⟩ => rfl | ⟨1, _⟩ => rfl | ⟨2, _⟩ => rfl]
  have e : val_main_v41 (F := Ideal) x0 x1 (ix3 b h t) = vmax (rscore x0 x1 b h 1 t) := by
    rw [← show (fun k => val_main_v40 (F := Ideal) x0 x1 (ix4 b h t k)) = rscore x0 x1 b h 1 t from funext fun k => score_1 x0 x1 b h t k]
    unfold val_main_v41
    generalize val_main_v40 (F := Ideal) x0 x1 = y
    pointwise
    rw [val_main_cst_9_apply]
    unfold vmax
    rw [← ofBits_neg_inf]
    rfl
  rw [e]
  show max (Ideal.ofBits .f32 0xFF800000#32) _ = _
  rw [ofBits_neg_inf]
  exact max_eq_right bot_le

theorem expo_1 (b : Fin 4) (h : Fin 8) (t k : Fin 2048) :
    val_main_v47 (F := Ideal) x0 x1 (ix4 b h t k) = Ideal.exp (rscore x0 x1 b h 1 t k - vmax (rscore x0 x1 b h 1 t)) := by
  rw [val_main_v47_apply, val_main_v46_apply, max_1, score_1]
  rfl

theorem weight_1 (b : Fin 4) (h : Fin 8) (t k : Fin 2048) : val_main_v51 (F := Ideal) x0 x1 (ix4 b h t k) = wgt (rscore x0 x1 b h 1 t) k := by
  rw [val_main_v51_apply, val_main_v50_apply, val_main_v49_apply, val_main_v48_apply, expo_1]
  rw [show idx_main_v49 (idx_main_v50 (ix4 b h t k)) = ix3 b h t from funext fun a => match a with | ⟨0, _⟩ => rfl | ⟨1, _⟩ => rfl | ⟨2, _⟩ => rfl]
  rw [show (∑ j, val_main_v47 (F := Ideal) x0 x1 (idx_main_v48 (ix3 b h t) j)) = ∑ j, Ideal.exp (rscore x0 x1 b h 1 t j - vmax (rscore x0 x1 b h 1 t)) from
    Finset.sum_congr rfl fun j _ => (congrArg _ (funext fun a => match a with | ⟨0, _⟩ => rfl | ⟨1, _⟩ => rfl | ⟨2, _⟩ => rfl | ⟨3, _⟩ => rfl)).trans (expo_1 x0 x1 b h t j)]
  rw [val_main_cst_11_apply, show (FloatOps.ofBits (F := Ideal) .f32 0x00000000#32 : EReal) = 0 from Ideal.ofBits_zero_f32, zero_add]
  rfl

/-- The reference's mixing weight. -/
theorem lam_ref (i : S_.Idx) : val_main_v11 (F := Ideal) x3 x4 x5 x6 i
    = lamOf (fun e => x3 (ix2 0 e)) (fun e => x4 (ix2 0 e)) (fun e => x5 (ix2 0 e)) (fun e => x6 (ix2 0 e)) := by
  have sum64 : ∀ f : S64.Idx → EReal, ∑ j, f j = ∑ e : Fin 64, f (ix1 e) := fun f => by
    let E : S64.Idx ≃ Fin 64 := { toFun := fun j => (j 0 : Fin 64), invFun := fun e => ix1 e, left_inv := fun j => (eq_ix1 j).symm, right_inv := fun _ => rfl }
    exact Fintype.sum_equiv E _ _ fun j => congrArg f (eq_ix1 j)
  have z : (FloatOps.ofBits (F := Ideal) .f32 0x00000000#32 : EReal) = 0 := Ideal.ofBits_zero_f32
  rw [val_main_v11_apply, val_main_v10_apply, val_main_v4_apply, val_main_v9_apply, val_main_v3_apply, val_main_v8_apply,
    val_main_cst_apply, val_main_cst_0_apply, val_main_cst_1_apply, z, zero_add, zero_add, sum64, sum64]
  have a : ∀ e : Fin 64, val_main_v2 (F := Ideal) x3 x4 (ix1 e) = x3 (ix2 0 e) * x4 (ix2 0 e) := fun e => by
    rw [val_main_v2_apply, val_main_v0_apply, val_main_v1_apply]
    exact congrArg₂ (· * ·)
      (congrArg x3 (funext fun a => match a with | ⟨0, _⟩ => Fin.ext (by have := e.isLt; simp <;> omega) | ⟨1, _⟩ => Fin.ext (by have := e.isLt; simp <;> omega)))
      (congrArg x4 (funext fun a => match a with | ⟨0, _⟩ => Fin.ext (by have := e.isLt; simp <;> omega) | ⟨1, _⟩ => Fin.ext (by have := e.isLt; simp <;> omega)))
  have c : ∀ e : Fin 64, val_main_v7 (F := Ideal) x5 x6 (ix1 e) = x5 (ix2 0 e) * x6 (ix2 0 e) := fun e => by
    rw [val_main_v7_apply, val_main_v5_apply, val_main_v6_apply]
    exact congrArg₂ (· * ·)
      (congrArg x5 (funext fun a => match a with | ⟨0, _⟩ => Fin.ext (by have := e.isLt; simp <;> omega) | ⟨1, _⟩ => Fin.ext (by have := e.isLt; simp <;> omega)))
      (congrArg x6 (funext fun a => match a with | ⟨0, _⟩ => Fin.ext (by have := e.isLt; simp <;> omega) | ⟨1, _⟩ => Fin.ext (by have := e.isLt; simp <;> omega)))
  rw [Finset.sum_congr rfl fun e _ => a e, Finset.sum_congr rfl fun e _ => c e]
  rfl

/-- The reference's attention row before the normalization: the values weighed by the difference of the two softmaxes. -/
def refRow (lam : EReal) (b : Fin 4) (h : Fin 8) (t : Fin 2048) (e : Fin 128) : EReal :=
  ∑ k, row x2 b h k e * (wgt (rscore x0 x1 b h 0 t) k - lam * wgt (rscore x0 x1 b h 1 t) k)

theorem row_ref (b : Fin 4) (h : Fin 8) (t : Fin 2048) (e : Fin 128) : val_main_v56 (F := Ideal) x0 x1 x2 x3 x4 x5 x6 (ix4 b t h e)
    = refRow x0 x1 x2 (lamOf (fun e => x3 (ix2 0 e)) (fun e => x4 (ix2 0 e)) (fun e => x5 (ix2 0 e)) (fun e => x6 (ix2 0 e))) b h t e := by
  rw [val_main_v56_apply, val_main_v55_apply]
  refine Finset.sum_congr rfl fun k _ => ?_
  rw [show ridx_main_v55 (idx_main_v56 (ix4 b t h e)) k = ix4 b h t k from
    funext fun a => match a with | ⟨0, _⟩ => rfl | ⟨1, _⟩ => rfl | ⟨2, _⟩ => rfl | ⟨3, _⟩ => rfl]
  rw [val_main_v54_apply, val_main_v53_apply, val_main_v52_apply, lam_ref, weight_0, weight_1]
  exact congrArg (· * _) (congrArg x2 (funext fun a => match a with | ⟨0, _⟩ => rfl | ⟨1, _⟩ => rfl | ⟨2, _⟩ => rfl | ⟨3, _⟩ => rfl))

theorem gain_ref (b : Fin 4) (h : Fin 8) (t : Fin 2048) (d : Fin 128) : val_main_v69 (F := Ideal) x7 (ix4 b t h d) = x7 (ix2 0 d) := by
  rw [val_main_v69_apply, val_main_v68_apply, val_main_v57_apply]
  exact congrArg x7 (funext fun a => match a with | ⟨0, _⟩ => Fin.ext (by have := d.isLt; simp <;> omega) | ⟨1, _⟩ => Fin.ext (by have := d.isLt; simp <;> omega))

theorem inv_ref (b : Fin 4) (h : Fin 8) (t : Fin 2048) (d : Fin 128) : val_main_v66 (F := Ideal) x0 x1 x2 x3 x4 x5 x6 (ix4 b t h d)
    = Ideal.rsqrt (Ideal.div (∑ e, val_main_v56 (F := Ideal) x0 x1 x2 x3 x4 x5 x6 (ix4 b t h e) * val_main_v56 (F := Ideal) x0 x1 x2 x3 x4 x5 x6 (ix4 b t h e))
        (Ideal.ofBits .f32 0x43000000#32) + Ideal.ofBits .f32 0x3727C5AC#32) := by
  rw [val_main_v66_apply, val_main_v65_apply, val_main_v64_apply, val_main_v63_apply, val_main_v62_apply, val_main_v61_apply,
    val_main_v60_apply, val_main_v59_apply, val_main_cst_12_apply, val_main_cst_13_apply, val_main_cst_14_apply]
  rw [show (FloatOps.ofBits (F := Ideal) .f32 0x00000000#32 : EReal) = 0 from Ideal.ofBits_zero_f32, zero_add]
  rw [show (∑ k, val_main_v58 (F := Ideal) x0 x1 x2 x3 x4 x5 x6 (idx_main_v59 (idx_main_v60 (idx_main_v66 (ix4 b t h d))) k))
      = ∑ e, val_main_v56 (F := Ideal) x0 x1 x2 x3 x4 x5 x6 (ix4 b t h e) * val_main_v56 (F := Ideal) x0 x1 x2 x3 x4 x5 x6 (ix4 b t h e) from
    Finset.sum_congr rfl fun e _ => by
      rw [show idx_main_v59 (idx_main_v60 (idx_main_v66 (ix4 b t h d))) e = ix4 b t h e from
        funext fun a => match a with | ⟨0, _⟩ => rfl | ⟨1, _⟩ => rfl | ⟨2, _⟩ => rfl | ⟨3, _⟩ => rfl, val_main_v58_apply]
      rfl]
  rfl

/-- The reference's result: batch `b`, head `h`, position `t`, lane `d`. -/
theorem ref_apply (b : Fin 4) (h : Fin 8) (t : Fin 2048) (d : Fin 128) :
    val_main_v74 (F := Ideal) x0 x1 x2 x3 x4 x5 x6 x7 (ix2 (⟨2048 * b.val + t.val, by omega⟩ : Fin 8192) (⟨128 * h.val + d.val, by omega⟩ : Fin 1024))
      = normRow (refRow x0 x1 x2 (lamOf (fun e => x3 (ix2 0 e)) (fun e => x4 (ix2 0 e)) (fun e => x5 (ix2 0 e)) (fun e => x6 (ix2 0 e))) b h t)
          (x7 (ix2 0 d)) d := by
  rw [val_main_v74_apply, val_main_v73_apply]
  rw [show idx_main_v73 (ix2 (⟨2048 * b.val + t.val, by omega⟩ : Fin 8192) (⟨128 * h.val + d.val, by omega⟩ : Fin 1024)) = ix4 b t h d from
    funext fun a => match a with
      | ⟨0, _⟩ => Fin.ext (show ((2048 * b.val + t.val) * 1024 + (128 * h.val + d.val)) / 2097152 = b.val by omega)
      | ⟨1, _⟩ => Fin.ext (show ((2048 * b.val + t.val) * 1024 + (128 * h.val + d.val)) / 1024 % 2048 = t.val by omega)
      | ⟨2, _⟩ => Fin.ext (show ((2048 * b.val + t.val) * 1024 + (128 * h.val + d.val)) / 128 % 8 = h.val by omega)
      | ⟨3, _⟩ => Fin.ext (show ((2048 * b.val + t.val) * 1024 + (128 * h.val + d.val)) % 128 = d.val by omega)]
  rw [val_main_v72_apply, val_main_v71_apply, val_main_cst_15_apply, val_main_v70_apply, val_main_v67_apply, gain_ref, inv_ref]
  simp only [row_ref]
  rfl

end Cert.Attn

end
-- ==== Proof.Attn.Equal.lean ====
module
public import proofs.«01_k».proof.Proof.Attn.RefRead
public import proofs.«01_k».proof.Proof.Attn.Soft

/-! # The kernel's row and the reference's row are one extended real, over real arguments

The kernel scales the queries, the reference the scores; the kernel divides each softmax after its sum, the reference before;
the kernel subtracts two outputs, the reference two tables of weights. Over the reals each pair agrees. -/

@[expose] public section
noncomputable section

namespace Cert.Attn

open Idealize.ShloMosaic
open scoped BigOperators

/-- Being a real number, not an infinity. -/
abbrev IsReal (x : EReal) : Prop := ∃ r : ℝ, x = r

theorem eighth : Ideal.ofBits .f32 0x3E000000#32 = ((1 / 8 : ℝ) : EReal) := by
  simp [Ideal.ofBits, Ideal.ieee, -EReal.coe_mul]; norm_num

theorem fifth_real : IsReal (Ideal.ofBits .f32 0x3E4CCCCD#32) := by
  refine ⟨(13421773 : ℝ) * (2 : ℝ) ^ (-26 : ℤ), ?_⟩
  simp [Ideal.ofBits, Ideal.ieee, -EReal.coe_mul]
  try norm_num

theorem dot_real {z : Fin 2} {q k : Fin 128 → EReal} (hq : ∀ e, IsReal (q e)) (hk : ∀ e, IsReal (k e)) : IsReal (dotH z q k) := by
  choose u hu using hq
  choose v hv using hk
  exact ⟨∑ e : Fin 64, u (lane z e) * v (lane z e), by unfold dotH; simp only [hu, hv, ← EReal.coe_mul, coe_sum]⟩

/-- A factor of every query lane is a factor of the product. -/
theorem dot_scale {z : Fin 2} {q k : Fin 128 → EReal} (hq : ∀ e, IsReal (q e)) (hk : ∀ e, IsReal (k e)) (r : ℝ) :
    dotH z (fun e => q e * (r : EReal)) k = dotH z q k * (r : EReal) := by
  choose u hu using hq
  choose v hv using hk
  unfold dotH
  simp only [hu, hv, ← EReal.coe_mul, ← coe_sum]
  congr 1
  rw [Finset.sum_mul]
  exact Finset.sum_congr rfl fun e _ => by ring

/-- The weight of the second half is real. -/
theorem lam_real {a b c d : Fin 64 → EReal} (ha : ∀ e, IsReal (a e)) (hb : ∀ e, IsReal (b e)) (hc : ∀ e, IsReal (c e))
    (hd : ∀ e, IsReal (d e)) : IsReal (lamOf a b c d) := by
  choose p hp using ha
  choose q hq using hb
  choose u hu using hc
  choose v hv using hd
  obtain ⟨w, hw⟩ := fifth_real
  refine ⟨Real.exp (∑ e, p e * q e) - Real.exp (∑ e, u e * v e) + w, ?_⟩
  unfold lamOf
  simp only [hp, hq, hu, hv, hw, ← EReal.coe_mul, ← coe_sum]
  rw [EReal.coe_add, EReal.coe_sub]
  rfl

section
variable {x0 x1 x2 : (⟨Cert.ReferenceIdeal.S4x2048x8x128, .f32⟩ : BufTy).Contents (Elt Ideal)}

/-- Scaling the queries scales the scores. -/
theorem score_eq (h0 : ∀ i, IsReal (x0 i)) (h1 : ∀ i, IsReal (x1 i)) (b : Fin 4) (h : Fin 8) (z : Fin 2) (t : Fin 2048) :
    score (fun t e => row x0 b h t e * Ideal.ofBits .f32 0x3E000000#32) (row x1 b h) z t = rscore x0 x1 b h z t := by
  funext k
  unfold score rscore
  refine if_congr Iff.rfl ?_ rfl
  rw [eighth]
  exact dot_scale (fun e => h0 _) (fun e => h1 _) _

/-- The scores are no plus infinity, and the score of a position with itself is real. -/
theorem rscore_ne_top (h0 : ∀ i, IsReal (x0 i)) (h1 : ∀ i, IsReal (x1 i)) (b : Fin 4) (h : Fin 8) (z : Fin 2) (t k : Fin 2048) :
    rscore x0 x1 b h z t k ≠ ⊤ := by
  obtain ⟨r, hr⟩ := dot_real (z := z) (q := row x0 b h t) (k := row x1 b h k) (fun e => h0 _) (fun e => h1 _)
  unfold rscore
  split
  · rw [hr, eighth, ← EReal.coe_mul]; exact EReal.coe_ne_top _
  · exact bot_ne_top

theorem rscore_self (h0 : ∀ i, IsReal (x0 i)) (h1 : ∀ i, IsReal (x1 i)) (b : Fin 4) (h : Fin 8) (z : Fin 2) (t : Fin 2048) :
    rscore x0 x1 b h z t t ≠ ⊥ := by
  obtain ⟨r, hr⟩ := dot_real (z := z) (q := row x0 b h t) (k := row x1 b h t) (fun e => h0 _) (fun e => h1 _)
  unfold rscore
  rw [if_pos le_rfl, hr, eighth, ← EReal.coe_mul]
  exact EReal.coe_ne_bot _

/-- The kernel's row is the reference's row. -/
theorem head_eq (h0 : ∀ i, IsReal (x0 i)) (h1 : ∀ i, IsReal (x1 i)) (h2 : ∀ i, IsReal (x2 i)) {lam : EReal} (hl : IsReal lam)
    (b : Fin 4) (h : Fin 8) (t : Fin 2048) :
    headRow (fun t e => row x0 b h t e * Ideal.ofBits .f32 0x3E000000#32) (row x1 b h) (row x2 b h) lam t
      = refRow x0 x1 x2 lam b h t := by
  funext e
  unfold headRow
  rw [score_eq h0 h1, score_eq h0 h1]
  exact soft_diff _ _ _ _ (rscore_ne_top h0 h1 b h 0 t) (rscore_ne_top h0 h1 b h 1 t) t (rscore_self h0 h1 b h 0 t)
    (rscore_self h0 h1 b h 1 t) (fun k => h2 _) hl

end

/-- An array whose absolute values all compare below plus infinity is real everywhere. -/
theorem real_of {S0 s : Shape} (x : FVec Ideal s .f32) (dims : Fin S0.rank → Fin s.rank) (hb : S0.BroadcastsInDim s dims)
    (h : cmpf .olt (Host.absf x) (broadcastInDim s dims hb (constant (F := Ideal) S0 .f32 0x7F800000#32)) = fun _ => 1#1) (i : s.Idx) :
    IsReal (x i) := by
  have h' := congrFun h i
  have e : Ideal.ofBits .f32 0x7F800000#32 = ⊤ := by simp [Ideal.ofBits, Ideal.ieee]
  have h2 : BitVec.ofBool (decide (max (x i : EReal) (-(x i : EReal)) < ⊤)) = 1#1 := by rw [← e]; exact h'
  have h3 : max (x i : EReal) (-(x i : EReal)) < ⊤ := by
    by_contra hn
    rw [decide_eq_false hn] at h2
    exact absurd h2 (by decide)
  refine ⟨(x i : EReal).toReal, (EReal.coe_toReal ?_ ?_).symm⟩
  · intro ht; rw [ht] at h3; simp at h3
  · intro ht; rw [ht] at h3; simp at h3

end Cert.Attn

end
-- ==== Proof.Attn.Block.lean ====
module
public import proofs.«01_k».proof.Proof.Attn.KernelRow

/-! # The block a grid step writes, read at an index

The eight stored tiles lie one under the other, so the block's row `t` is row `t` of the head's output. -/

set_option maxRecDepth 16384

@[expose] public section
noncomputable section

namespace Cert.Attn

open Idealize.ShloMosaic Cert.KernelIdeal Cert.KernelIdeal.Gen
open scoped BigOperators

/-- The stores `ps` leave `f` in the rows before `n`. -/
def Upto (n : ℕ) (ps : List (View.Piece (Elt Ideal) S2048x128 .bf16)) (f : Fin 2048 → Fin 128 → EReal) : Prop :=
  ∀ (t : Fin 2048) (d : Fin 128), t.val < n → View.canon ps (ix2 t d) = f t d

theorem Upto.cons {lo : ℕ} {inb} (hlo : lo + 256 ≤ 2048) {ps} {f : Fin 2048 → Fin 128 → EReal} (h : Upto lo ps f)
    (w : Mat 256 128 .bf16) (hw : ∀ r d, w (ix2 r d) = f ⟨lo + r.val, by omega⟩ d) :
    Upto (lo + 256) (⟨Rect.unit (s := S2048x128) ![lo, 0] S256x128.size inb, w⟩ :: ps) f := by
  intro t d ht
  by_cases hl : t.val < lo
  · rw [View.canon_cons_of_not_mem]
    · exact h t d hl
    · rw [Rect.mem_set_unit]
      intro hc
      have := (hc 0).1
      change lo ≤ t.val at this
      omega
  · have e : (Rect.unit (s := S2048x128) ![lo, 0] S256x128.size inb).emb (ix2 (⟨t.val - lo, by omega⟩ : Fin 256) d) = ix2 t d := by
      funext a
      match a with
      | ⟨0, _⟩ => exact Fin.ext (by show lo + 1 * (t.val - lo) = t.val; omega)
      | ⟨1, _⟩ => exact Fin.ext (by show 0 + 1 * d.val = d.val; omega)
    rw [← e, View.canon_cons_emb, hw]
    congr 1
    exact Fin.ext (by show lo + (t.val - lo) = t.val; omega)

/-- A load of `m` rows from row `lo` on, at an index. -/
theorem ld_rows {lo m : ℕ} (x : Vec Ideal S2048x128 .bf16) {inb} (h : lo + m ≤ 2048) (r : Fin m) (e : Fin 128) :
    View.ld x (Rect.unit (s := S2048x128) ![lo, 0] (⟨2, ![m, 128]⟩ : Shape).size inb) (ix2 r e) = x (ix2 ⟨lo + r.val, by omega⟩ e) := by
  show x _ = x _
  congr 1
  funext a
  match a with
  | ⟨0, _⟩ => exact Fin.ext (by show lo + 1 * r.val = lo + r.val; omega)
  | ⟨1, _⟩ => exact Fin.ext (by show 0 + 1 * e.val = e.val; omega)

theorem ld_first {m : ℕ} (x : Vec Ideal S2048x128 .bf16) {inb} (h : m ≤ 2048) (r : Fin m) (e : Fin 128) :
    View.ld x (Rect.unit (s := S2048x128) ![0, 0] (⟨2, ![m, 128]⟩ : Shape).size inb) (ix2 r e) = x (ix2 ⟨r.val, by omega⟩ e) := by
  rw [ld_rows (lo := 0) x (by omega)]
  congr 2
  exact Fin.ext (Nat.zero_add _)

section
variable (x5 x6 x7 : Vec Ideal S2048x128 .bf16)

/-- The output of the head whose queries, keys and values are the blocks. -/
abbrev blockOut (lam : EReal) (g : Fin 128 → EReal) : Fin 2048 → Fin 128 → EReal :=
  headOut (fun t e => x5 (ix2 t e)) (fun t e => x6 (ix2 t e)) (fun t e => x7 (ix2 t e)) lam g

theorem head_rows (lam : Mat 1 1 .f32) (g : Mat 1 128 .f32) (o : Mat 512 128 .f32) (t : Fin 2048) (r : Fin 256)
    (Q K V : Fin 2048 → Fin 128 → EReal)
    (ho : ∀ (b : Fin 2) (d : Fin 128), o (ix2 ⟨256 * b.val + r.val, by omega⟩ d) = soft (score Q K b t) (fun k => V k d))
    (h0 h1 hl) (d : Fin 128) :
    k0_pay18 (F := Ideal) (halves h0 h1 hl lam o) g (ix2 r d) = headOut Q K V (lam (ix2 0 0)) (fun e => g (ix2 0 e)) t d := by
  rw [norm_apply]
  unfold headOut headRow
  congr 1
  funext e
  rw [halves_apply (n := 0), ← ho 0 e, ← ho 1 e]
  have e0 : (⟨r.val, by omega⟩ : Fin 512) = ⟨256 * (0 : Fin 2).val + r.val, by omega⟩ := Fin.ext (by simp)
  have e1 : (⟨256 + r.val, by omega⟩ : Fin 512) = ⟨256 * (1 : Fin 2).val + r.val, by omega⟩ := Fin.ext (by simp)
  rw [e0, e1]

theorem piece_row {n : ℕ} (h1 : n ≠ 1) (hn : n + 256 ≤ 2048) (hrn hbn hkn lam) {inb inb'} (g : Mat 1 128 .f32) (r : Fin 256)
    (d : Fin 128) :
    piece (n := n) hrn hbn hkn lam (View.ld x5 (Rect.unit (s := S2048x128) ![n, 0] S256x128.size inb))
      (View.ld x6 (Rect.unit (s := S2048x128) ![n, 0] S256x128.size inb))
      (View.ld x7 (Rect.unit (s := S2048x128) ![n, 0] S256x128.size inb))
      (View.ld x6 (Rect.unit (s := S2048x128) ![0, 0] (⟨2, ![n, 128]⟩ : Shape).size inb'))
      (View.ld x7 (Rect.unit (s := S2048x128) ![0, 0] (⟨2, ![n, 128]⟩ : Shape).size inb')) g (ix2 r d)
      = blockOut x5 x6 x7 (lam (ix2 0 0)) (fun e => g (ix2 0 e)) ⟨n + r.val, by omega⟩ d := by
  unfold piece
  refine head_rows lam g _ ⟨n + r.val, by omega⟩ r (fun t e => x5 (ix2 t e)) (fun t e => x6 (ix2 t e)) (fun t e => x7 (ix2 t e))
    (fun b e => ?_) _ _ _ d
  refine tile_row (fun t e => x5 (ix2 t e)) (fun t e => x6 (ix2 t e)) (fun t e => x7 (ix2 t e)) h1 hn _ _ _ _ _ _ _ _ _ _ _ _ _ _
    ?_ ?_ ?_ ?_ ?_ b r e
  · exact fun r e => ld_rows x5 hn r e
  · exact fun r e => ld_rows x6 hn r e
  · exact fun r e => ld_rows x7 hn r e
  · exact fun r e => ld_first x6 (by omega) r e
  · exact fun r e => ld_first x7 (by omega) r e

theorem piece0_row (lam) {inb} (g : Mat 1 128 .f32) (r : Fin 256) (d : Fin 128) :
    piece0 lam (View.ld x5 (Rect.unit (s := S2048x128) ![0, 0] S256x128.size inb))
      (View.ld x6 (Rect.unit (s := S2048x128) ![0, 0] S256x128.size inb))
      (View.ld x7 (Rect.unit (s := S2048x128) ![0, 0] S256x128.size inb)) g (ix2 r d)
      = blockOut x5 x6 x7 (lam (ix2 0 0)) (fun e => g (ix2 0 e)) ⟨0 + r.val, by omega⟩ d := by
  unfold piece0
  refine head_rows lam g _ ⟨0 + r.val, by omega⟩ r (fun t e => x5 (ix2 t e)) (fun t e => x6 (ix2 t e)) (fun t e => x7 (ix2 t e))
    (fun b e => ?_) _ _ _ d
  refine tile_row0 (fun t e => x5 (ix2 t e)) (fun t e => x6 (ix2 t e)) (fun t e => x7 (ix2 t e)) _ _ _ _ _ _ _ _ _
    ?_ ?_ ?_ b r e
  · exact fun r e => ld_rows x5 (by norm_num) r e
  · exact fun r e => ld_rows x6 (by norm_num) r e
  · exact fun r e => ld_rows x7 (by norm_num) r e

/-- The block a grid step writes. -/
theorem out_apply (x0 x1 x2 x3 : Vec Ideal S1x64 .f32) (x4 : Vec Ideal S1x128 .f32) (t : Fin 2048) (d : Fin 128) :
    out0_8 x0 x1 x2 x3 x4 x5 x6 x7 (ix2 t d)
      = blockOut x5 x6 x7 (lamOf (fun e => x0 (ix2 0 e)) (fun e => x1 (ix2 0 e)) (fun e => x2 (ix2 0 e)) (fun e => x3 (ix2 0 e)))
          (fun e => x4 (ix2 0 e)) t d := by
  rw [out_eq, ← lam_apply]
  have hz : (![0, 0] : Fin 2 → ℕ) = fun _ => 0 := by decide
  simp only [View.ld_unit_zero (S := S1x64) hz, View.ld_unit_zero (S := S1x128) hz]
  have h0 : Upto 0 [] (blockOut x5 x6 x7 (k0_pay2 (F := Ideal) x0 x1 x2 x3 (ix2 0 0)) (fun e => x4 (ix2 0 e))) :=
    fun t d ht => absurd ht (by omega)
  have h1 := h0.cons (inb := inb_S2048x128_S256x128_0_0) (by norm_num) _ (fun r d => piece0_row x5 x6 x7 (k0_pay2 (F := Ideal) x0 x1 x2 x3) (inb := inb_S2048x128_S256x128_0_0) x4 r d)
  have h2 := h1.cons (inb := inb_S2048x128_S256x128_256_0) (by norm_num) _ (fun r d => piece_row (n := 256) x5 x6 x7 (by norm_num) (by norm_num)
    reduces_S512x256_S512 broadcasts_S512x1_S512x256 shapeCasts_S256x128_S256x128 (k0_pay2 (F := Ideal) x0 x1 x2 x3) (inb := inb_S2048x128_S256x128_256_0) (inb' := inb_S2048x128_S256x128_0_0) x4 r d)
  have h3 := h2.cons (inb := inb_S2048x128_S256x128_512_0) (by norm_num) _ (fun r d => piece_row (n := 512) x5 x6 x7 (by norm_num) (by norm_num)
    reduces_S512x512_S512 broadcasts_S512x1_S512x512 shapeCasts_S512x128_S512x128 (k0_pay2 (F := Ideal) x0 x1 x2 x3) (inb := inb_S2048x128_S256x128_512_0) (inb' := inb_S2048x128_S512x128_0_0) x4 r d)
  have h4 := h3.cons (inb := inb_S2048x128_S256x128_768_0) (by norm_num) _ (fun r d => piece_row (n := 768) x5 x6 x7 (by norm_num) (by norm_num)
    reduces_S512x768_S512 broadcasts_S512x1_S512x768 shapeCasts_S768x128_S768x128 (k0_pay2 (F := Ideal) x0 x1 x2 x3) (inb := inb_S2048x128_S256x128_768_0) (inb' := inb_S2048x128_S768x128_0_0) x4 r d)
  have h5 := h4.cons (inb := inb_S2048x128_S256x128_1024_0) (by norm_num) _ (fun r d => piece_row (n := 1024) x5 x6 x7 (by norm_num) (by norm_num)
    reduces_S512x1024_S512 broadcasts_S512x1_S512x1024 shapeCasts_S1024x128_S1024x128 (k0_pay2 (F := Ideal) x0 x1 x2 x3) (inb := inb_S2048x128_S256x128_1024_0) (inb' := inb_S2048x128_S1024x128_0_0) x4 r d)
  have h6 := h5.cons (inb := inb_S2048x128_S256x128_1280_0) (by norm_num) _ (fun r d => piece_row (n := 1280) x5 x6 x7 (by norm_num) (by norm_num)
    reduces_S512x1280_S512 broadcasts_S512x1_S512x1280 shapeCasts_S1280x128_S1280x128 (k0_pay2 (F := Ideal) x0 x1 x2 x3) (inb := inb_S2048x128_S256x128_1280_0) (inb' := inb_S2048x128_S1280x128_0_0) x4 r d)
  have h7 := h6.cons (inb := inb_S2048x128_S256x128_1536_0) (by norm_num) _ (fun r d => piece_row (n := 1536) x5 x6 x7 (by norm_num) (by norm_num)
    reduces_S512x1536_S512 broadcasts_S512x1_S512x1536 shapeCasts_S1536x128_S1536x128 (k0_pay2 (F := Ideal) x0 x1 x2 x3) (inb := inb_S2048x128_S256x128_1536_0) (inb' := inb_S2048x128_S1536x128_0_0) x4 r d)
  have h8 := h7.cons (inb := inb_S2048x128_S256x128_1792_0) (by norm_num) _ (fun r d => piece_row (n := 1792) x5 x6 x7 (by norm_num) (by norm_num)
    reduces_S512x1792_S512 broadcasts_S512x1_S512x1792 shapeCasts_S1792x128_S1792x128 (k0_pay2 (F := Ideal) x0 x1 x2 x3) (inb := inb_S2048x128_S256x128_1792_0) (inb' := inb_S2048x128_S1792x128_0_0) x4 r d)
  exact h8 t d (by omega)

end

end Cert.Attn

end
-- ==== Proof.Attn.KernelValue.lean ====
module
public import proofs.«01_k».proof.Proof.Attn.Block
public import proofs.«01_k».proof.Proof.Gen.KernelIdeal.Value

/-! # The kernel's result array, read at an index

Grid point `(b, h)` writes the block of batch `b` and head `h`; its row `t` is row `t` of that head's output over the launch's
arguments. -/

set_option maxRecDepth 16384

@[expose] public section
noncomputable section

namespace Cert.Attn

open Idealize.ShloMosaic Cert.KernelIdeal Cert.KernelIdeal.Gen Idealize.ShloMosaic.TcCoe Idealize.SL.Sem
open scoped BigOperators

variable (m : (ℓ : Loc nD τ sig) → Buf (Elt Ideal) ℓ) (c : Dev nD)

/-- The array of queries, keys or values as rows of all heads, read at a row and lane. -/
theorem rows_apply {φ : EltTy} (x : Vec Ideal S4x2048x8x128 φ) (b : Fin 4) (t : Fin 2048) (h : Fin 8) (e : Fin 128) :
    shapeCast S8192x1024 x shapeCasts_S4x2048x8x128_S8192x1024 (ix2 ⟨2048 * b.val + t.val, by omega⟩ ⟨128 * h.val + e.val, by omega⟩)
      = x (ix4 b t h e) := by
  refine shapeCast_apply x _ _ _ ?_
  rw [Shape.rowMajor_val_four, Shape.rowMajor_val_two]
  show ((b.val * 2048 + t.val) * 8 + h.val) * 128 + e.val = (2048 * b.val + t.val) * 1024 + (128 * h.val + e.val)
  omega

theorem V_q : V m c main_v3 = truncf .bf16 (mulf (shapeCast S8192x1024 (m ((c : Thread nD τ).loc main_arg0)) shapeCasts_S4x2048x8x128_S8192x1024)
    (broadcastInDim S8192x1024 ![] bcast_S_S8192x1024 (constant (F := Ideal) S_ .f32 0x3E000000#32))) bitsLt_bf16_f32 := by
  dsimp only [V, hostOps0]; after_results; rfl

theorem V_k : V m c main_v5 = truncf (F := Ideal) .bf16 (φ := .f32) (shapeCast S8192x1024 (m ((c : Thread nD τ).loc main_arg1)) shapeCasts_S4x2048x8x128_S8192x1024) bitsLt_bf16_f32 := by
  dsimp only [V, hostOps0]; after_results; rfl

theorem V_v : V m c main_v7 = truncf (F := Ideal) .bf16 (φ := .f32) (shapeCast S8192x1024 (m ((c : Thread nD τ).loc main_arg2)) shapeCasts_S4x2048x8x128_S8192x1024) bitsLt_bf16_f32 := by
  dsimp only [V, hostOps0]; after_results; rfl

theorem V_l1 : V m c main_v9 = shapeCast S1x64 (shapeCast S64 (m ((c : Thread nD τ).loc main_arg3)) shapeCasts_S1x64_S64) shapeCasts_S64_S1x64 := by
  dsimp only [V, hostOps0]; after_results; rfl

theorem V_l2 : V m c main_v11 = shapeCast S1x64 (shapeCast S64 (m ((c : Thread nD τ).loc main_arg4)) shapeCasts_S1x64_S64) shapeCasts_S64_S1x64 := by
  dsimp only [V, hostOps0]; after_results; rfl

theorem V_l3 : V m c main_v13 = shapeCast S1x64 (shapeCast S64 (m ((c : Thread nD τ).loc main_arg5)) shapeCasts_S1x64_S64) shapeCasts_S64_S1x64 := by
  dsimp only [V, hostOps0]; after_results; rfl

theorem V_l4 : V m c main_v15 = shapeCast S1x64 (shapeCast S64 (m ((c : Thread nD τ).loc main_arg6)) shapeCasts_S1x64_S64) shapeCasts_S64_S1x64 := by
  dsimp only [V, hostOps0]; after_results; rfl

theorem V_g : V m c main_v17 = shapeCast S1x128 (shapeCast S128 (m ((c : Thread nD τ).loc main_arg7)) shapeCasts_S1x128_S128) shapeCasts_S128_S1x128 := by
  dsimp only [V, hostOps0]; after_results; rfl

/-- A point's block: batch `t / 8`, head `t % 8`; the vectors whole. -/
theorem idx_facts : ∀ t : Fin cfg0.N, win0_5.index t = ![t.val / 8, t.val % 8] ∧ win0_6.index t = ![t.val / 8, t.val % 8]
    ∧ win0_7.index t = ![t.val / 8, t.val % 8] ∧ win0_8.index t = ![t.val / 8, t.val % 8] ∧ win0_0.index t = ![0, 0]
    ∧ win0_1.index t = ![0, 0] ∧ win0_2.index t = ![0, 0] ∧ win0_3.index t = ![0, 0] ∧ win0_4.index t = ![0, 0] :=
  (by decide +kernel : ∀ t : Fin grid0.N, _)

theorem flush_all : ∀ t : Fin cfg0.N, (cfg0.win 8).flush t = true := (by decide +kernel : ∀ t : Fin grid0.N, win0_8.flush t = true)

/-- The grid point of a batch and a head. -/
abbrev pt (b : Fin 4) (h : Fin 8) : Fin cfg0.N := ⟨8 * b.val + h.val, by show _ < grid0.N; rw [show grid0.N = 32 from by decide]; omega⟩

theorem pt_div (b : Fin 4) (h : Fin 8) : (8 * b.val + h.val) / 8 = b.val := by omega
theorem pt_mod (b : Fin 4) (h : Fin 8) : (8 * b.val + h.val) % 8 = h.val := by omega

/-- An index of the array by its block and its place in the block. -/
theorem eq_cell (i : S8192x1024.Idx) (b : Fin 4) (h : Fin 8) (r : Fin 2048) (e : Fin 128) (h0 : (i 0).val = b.val * 2048 + 1 * r.val)
    (h1 : (i 1).val = h.val * 128 + 1 * e.val) :
    i = ix2 (⟨2048 * b.val + r.val, by omega⟩ : Fin 8192) (⟨128 * h.val + e.val, by omega⟩ : Fin 1024) := by
  funext a
  match a with
  | ⟨0, _⟩ => exact Fin.ext (by show (i 0).val = 2048 * b.val + r.val; omega)
  | ⟨1, _⟩ => exact Fin.ext (by show (i 1).val = 128 * h.val + e.val; omega)

theorem emb5 (b : Fin 4) (h : Fin 8) (r : Fin 2048) (e : Fin 128) : ((cfg0.win 5).blk (pt b h)).view.emb (ix2 r e)
    = (ix2 (⟨2048 * b.val + r.val, by omega⟩ : Fin 8192) (⟨128 * h.val + e.val, by omega⟩ : Fin 1024)) := by
  have hi := (idx_facts (pt b h)).1
  refine eq_cell _ b h r e ?_ ?_
  · show win0_5.index (pt b h) 0 * 2048 + 1 * r.val = _
    rw [hi]; show (8 * b.val + h.val) / 8 * 2048 + 1 * r.val = _; rw [pt_div]
  · show win0_5.index (pt b h) 1 * 128 + 1 * e.val = _
    rw [hi]; show (8 * b.val + h.val) % 8 * 128 + 1 * e.val = _; rw [pt_mod]

theorem emb6 (b : Fin 4) (h : Fin 8) (r : Fin 2048) (e : Fin 128) : ((cfg0.win 6).blk (pt b h)).view.emb (ix2 r e)
    = (ix2 (⟨2048 * b.val + r.val, by omega⟩ : Fin 8192) (⟨128 * h.val + e.val, by omega⟩ : Fin 1024)) := by
  have hi := (idx_facts (pt b h)).2.1
  refine eq_cell _ b h r e ?_ ?_
  · show win0_6.index (pt b h) 0 * 2048 + 1 * r.val = _
    rw [hi]; show (8 * b.val + h.val) / 8 * 2048 + 1 * r.val = _; rw [pt_div]
  · show win0_6.index (pt b h) 1 * 128 + 1 * e.val = _
    rw [hi]; show (8 * b.val + h.val) % 8 * 128 + 1 * e.val = _; rw [pt_mod]

theorem emb7 (b : Fin 4) (h : Fin 8) (r : Fin 2048) (e : Fin 128) : ((cfg0.win 7).blk (pt b h)).view.emb (ix2 r e)
    = (ix2 (⟨2048 * b.val + r.val, by omega⟩ : Fin 8192) (⟨128 * h.val + e.val, by omega⟩ : Fin 1024)) := by
  have hi := (idx_facts (pt b h)).2.2.1
  refine eq_cell _ b h r e ?_ ?_
  · show win0_7.index (pt b h) 0 * 2048 + 1 * r.val = _
    rw [hi]; show (8 * b.val + h.val) / 8 * 2048 + 1 * r.val = _; rw [pt_div]
  · show win0_7.index (pt b h) 1 * 128 + 1 * e.val = _
    rw [hi]; show (8 * b.val + h.val) % 8 * 128 + 1 * e.val = _; rw [pt_mod]

theorem emb8 (b : Fin 4) (h : Fin 8) (r : Fin 2048) (e : Fin 128) : ((cfg0.win 8).blk (pt b h)).view.emb (ix2 r e)
    = (ix2 (⟨2048 * b.val + r.val, by omega⟩ : Fin 8192) (⟨128 * h.val + e.val, by omega⟩ : Fin 1024)) := by
  have hi := (idx_facts (pt b h)).2.2.2.1
  refine eq_cell _ b h r e ?_ ?_
  · show win0_8.index (pt b h) 0 * 2048 + 1 * r.val = _
    rw [hi]; show (8 * b.val + h.val) / 8 * 2048 + 1 * r.val = _; rw [pt_div]
  · show win0_8.index (pt b h) 1 * 128 + 1 * e.val = _
    rw [hi]; show (8 * b.val + h.val) % 8 * 128 + 1 * e.val = _; rw [pt_mod]

/-- The arguments, read by batch, row, head and lane. -/
abbrev argQ (b : Fin 4) (h : Fin 8) (t : Fin 2048) (e : Fin 128) : EReal := m ((c : Thread nD τ).loc main_arg0) (ix4 b t h e)
abbrev argK (b : Fin 4) (h : Fin 8) (t : Fin 2048) (e : Fin 128) : EReal := m ((c : Thread nD τ).loc main_arg1) (ix4 b t h e)
abbrev argV (b : Fin 4) (h : Fin 8) (t : Fin 2048) (e : Fin 128) : EReal := m ((c : Thread nD τ).loc main_arg2) (ix4 b t h e)

/-- The weight of the second half, from the arguments. -/
abbrev argLam : EReal :=
  lamOf (fun e => m ((c : Thread nD τ).loc main_arg3) (ix2 0 e)) (fun e => m ((c : Thread nD τ).loc main_arg4) (ix2 0 e))
    (fun e => m ((c : Thread nD τ).loc main_arg5) (ix2 0 e)) (fun e => m ((c : Thread nD τ).loc main_arg6) (ix2 0 e))

abbrev argG (e : Fin 128) : EReal := m ((c : Thread nD τ).loc main_arg7) (ix2 0 e)

theorem blk_q (b : Fin 4) (h : Fin 8) (r : Fin 2048) (e : Fin 128) :
    iblk m c 5 (pt b h) (ix2 r e) = argQ m c b h r e * Ideal.ofBits .f32 0x3E000000#32 := by
  show V m c main_v3 (((cfg0.win 5).blk (pt b h)).view.emb (ix2 r e)) = _
  rw [emb5, V_q, ValueIdx.truncf_apply, ValueIdx.mulf_apply, rows_apply]
  rfl

theorem blk_k (b : Fin 4) (h : Fin 8) (r : Fin 2048) (e : Fin 128) : iblk m c 6 (pt b h) (ix2 r e) = argK m c b h r e := by
  show V m c main_v5 (((cfg0.win 6).blk (pt b h)).view.emb (ix2 r e)) = _
  rw [emb6, V_k, ValueIdx.truncf_apply, rows_apply]

theorem blk_v (b : Fin 4) (h : Fin 8) (r : Fin 2048) (e : Fin 128) : iblk m c 7 (pt b h) (ix2 r e) = argV m c b h r e := by
  show V m c main_v7 (((cfg0.win 7).blk (pt b h)).view.emb (ix2 r e)) = _
  rw [emb7, V_v, ValueIdx.truncf_apply, rows_apply]

theorem flat_apply {n : ℕ} (x : FVec Ideal ⟨2, ![1, n]⟩ .f32) (h : (⟨2, ![1, n]⟩ : Shape).ShapeCasts ⟨1, ![n]⟩)
    (h' : (⟨1, ![n]⟩ : Shape).ShapeCasts ⟨2, ![1, n]⟩) (y : (⟨2, ![1, n]⟩ : Shape).Idx) :
    shapeCast ⟨2, ![1, n]⟩ (shapeCast ⟨1, ![n]⟩ x h) h' y = x y := by
  rw [shapeCast_shapeCast]

theorem eq_row {n : ℕ} (i : (⟨2, ![1, n]⟩ : Shape).Idx) (e : Fin n) (h : (i 1).val = 0 * n + 1 * e.val) : i = ix2 0 e := by
  funext a
  match a with
  | ⟨0, _⟩ => exact Fin.ext (by have := (i 0).isLt; change (i 0).val < 1 at this; show (i 0).val = 0; omega)
  | ⟨1, _⟩ => exact Fin.ext (by show (i 1).val = e.val; omega)

theorem blk_l1 (t : Fin cfg0.N) (e : Fin 64) : iblk m c 0 t (ix2 0 e) = m ((c : Thread nD τ).loc main_arg3) (ix2 0 e) := by
  show V m c main_v9 (((cfg0.win 0).blk t).view.emb (ix2 0 e)) = _
  rw [eq_row (n := 64) (((cfg0.win 0).blk t).view.emb (ix2 0 e)) e
    (by show win0_0.index t 1 * 64 + 1 * e.val = _; rw [(idx_facts t).2.2.2.2.1]; rfl), V_l1]
  exact flat_apply _ _ _ _

theorem blk_l2 (t : Fin cfg0.N) (e : Fin 64) : iblk m c 1 t (ix2 0 e) = m ((c : Thread nD τ).loc main_arg4) (ix2 0 e) := by
  show V m c main_v11 (((cfg0.win 1).blk t).view.emb (ix2 0 e)) = _
  rw [eq_row (n := 64) (((cfg0.win 1).blk t).view.emb (ix2 0 e)) e
    (by show win0_1.index t 1 * 64 + 1 * e.val = _; rw [(idx_facts t).2.2.2.2.2.1]; rfl), V_l2]
  exact flat_apply _ _ _ _

theorem blk_l3 (t : Fin cfg0.N) (e : Fin 64) : iblk m c 2 t (ix2 0 e) = m ((c : Thread nD τ).loc main_arg5) (ix2 0 e) := by
  show V m c main_v13 (((cfg0.win 2).blk t).view.emb (ix2 0 e)) = _
  rw [eq_row (n := 64) (((cfg0.win 2).blk t).view.emb (ix2 0 e)) e
    (by show win0_2.index t 1 * 64 + 1 * e.val = _; rw [(idx_facts t).2.2.2.2.2.2.1]; rfl), V_l3]
  exact flat_apply _ _ _ _

theorem blk_l4 (t : Fin cfg0.N) (e : Fin 64) : iblk m c 3 t (ix2 0 e) = m ((c : Thread nD τ).loc main_arg6) (ix2 0 e) := by
  show V m c main_v15 (((cfg0.win 3).blk t).view.emb (ix2 0 e)) = _
  rw [eq_row (n := 64) (((cfg0.win 3).blk t).view.emb (ix2 0 e)) e
    (by show win0_3.index t 1 * 64 + 1 * e.val = _; rw [(idx_facts t).2.2.2.2.2.2.2.1]; rfl), V_l4]
  exact flat_apply _ _ _ _

theorem blk_g (t : Fin cfg0.N) (e : Fin 128) : iblk m c 4 t (ix2 0 e) = m ((c : Thread nD τ).loc main_arg7) (ix2 0 e) := by
  show V m c main_v17 (((cfg0.win 4).blk t).view.emb (ix2 0 e)) = _
  rw [eq_row (n := 128) (((cfg0.win 4).blk t).view.emb (ix2 0 e)) e
    (by show win0_4.index t 1 * 128 + 1 * e.val = _; rw [(idx_facts t).2.2.2.2.2.2.2.2]; rfl), V_g]
  exact flat_apply _ _ _ _

/-- The result array: row `t`, lane `d` of batch `b`, head `h`. -/
theorem result_apply (b : Fin 4) (h : Fin 8) (t : Fin 2048) (d : Fin 128) :
    (dats m 0 c).arrAt 8 cfg0.N (ix2 (⟨2048 * b.val + t.val, by omega⟩ : Fin 8192) (⟨128 * h.val + d.val, by omega⟩ : Fin 1024))
      = headOut (fun t e => argQ m c b h t e * Ideal.ofBits .f32 0x3E000000#32) (argK m c b h) (argV m c b h) (argLam m c) (argG m c) t d := by
  have hb := congrFun (Value.blocks8 m c (pt b h) (flush_all _)) (ix2 t d)
  rw [Value.flushed8] at hb
  rw [← emb8 b h t d]
  refine hb.trans ?_
  refine (out_apply _ _ _ _ _ _ _ _ t d).trans ?_
  unfold blockOut argLam argG
  simp only [blk_q, blk_k, blk_v, blk_l1, blk_l2, blk_l3, blk_l4, blk_g]

end Cert.Attn

end
-- ==== Proof.Attn.Claim.lean ====
module
public import proofs.«01_k».proof.Defs
public import proofs.«01_k».proof.Proof.Gen.Pre_finite
public import proofs.«01_k».proof.Proof.Attn.Equal
public import proofs.«01_k».proof.Proof.Attn.KernelValue
public import proofs.«01_k».proof.Proof.Gen.ReferenceIdeal.Run

/-! # The attention's claims -/

set_option maxRecDepth 16384

@[expose] public section
noncomputable section

namespace Cert.Attn

open Idealize.ShloMosaic Idealize.SL.Sem Idealize.ShloMosaic.TcCoe

/-- The reference runs, leaves its arguments and ends with every counter at zero. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ref_finite : Cert.quiescent_ReferenceIdeal_pre_finite := fun m ρ _ => frame_ref m ρ trivial

theorem frame_finite : Cert.quiescent_KernelIdeal_pre_finite := fun m ρ _ => Cert.KernelIdeal.Gen.frame m ρ

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Every index of the result is a batch, a position, a head and a lane. -/
theorem eq_index (i : (⟨2, ![8192, 1024]⟩ : Shape).Idx) : ∃ (b : Fin 4) (h : Fin 8) (t : Fin 2048) (d : Fin 128),
    i = ix2 (⟨2048 * b.val + t.val, by omega⟩ : Fin 8192) (⟨128 * h.val + d.val, by omega⟩ : Fin 1024) := by
  have h0 : (i 0).val < 8192 := (i 0).isLt
  have h1 : (i 1).val < 1024 := (i 1).isLt
  refine ⟨⟨(i 0).val / 2048, by omega⟩, ⟨(i 1).val / 128, by omega⟩, ⟨(i 0).val % 2048, by omega⟩, ⟨(i 1).val % 128, by omega⟩,
    funext fun a => match a with
      | ⟨0, _⟩ => Fin.ext (show (i 0).val = 2048 * ((i 0).val / 2048) + (i 0).val % 2048 by omega)
      | ⟨1, _⟩ => Fin.ext (show (i 1).val = 128 * ((i 1).val / 128) + (i 1).val % 128 by omega)⟩

/-- The two results are one array, over real arguments. -/
theorem results_eq (hpre : Cert.Pre_KernelIdeal_finite m) (c : Dev Cert.KernelIdeal.nD) :
    Cert.ReferenceIdeal.Read.val_main_v74 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
    = (Cert.KernelIdeal.Gen.dats m 0 c).arrAt 8 Cert.KernelIdeal.cfg0.N := by
  obtain ⟨p0, p1, p2, p3, p4, p5, p6⟩ := hpre c
  have q0 := real_of _ _ _ p0
  have q1 := real_of _ _ _ p1
  have q2 := real_of _ _ _ p2
  have q3 := real_of _ _ _ p3
  have q4 := real_of _ _ _ p4
  have q5 := real_of _ _ _ p5
  have q6 := real_of _ _ _ p6
  funext i
  obtain ⟨b, h, t, d, rfl⟩ := eq_index i
  refine (ref_apply _ _ _ _ _ _ _ _ b h t d).trans ?_
  refine Eq.trans ?_ (result_apply m c b h t d).symm
  have hl : IsReal (argLam m c) := lam_real (fun e => q3 _) (fun e => q4 _) (fun e => q5 _) (fun e => q6 _)
  exact (congrArg (fun o => normRow o (argG m c d) d) (head_eq q0 q1 q2 hl b h t)).symm

theorem algebraic : Cert.algebraic_KernelIdeal_ReferenceIdeal_pre_finite := by
  intro m g m' g' hpre hagree
  refine ⟨fun c => (Cert.KernelIdeal.Gen.dats m 0 c).arrAt 8 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v74_eq m' c).trans ?_)
  obtain ⟨a0, a1, a2, a3, a4, a5, a6, a7⟩ := hagree c
  rw [a0, a1, a2, a3, a4, a5, a6, a7]
  exact results_eq m hpre c

end Cert.Attn

end
-- ==== Proof.Ffn.Case.lean ====
module
public import proofs.«01_k».proof.Proof.Gen.FfnIdeal.Frame
public import Idealize.ShloMosaic.PureOps.Ideal
public import Idealize.ShloMosaic.Lib.Pipeline.ValueKit.Acc

/-! # What the feed-forward kernel stores at a grid step, as its printed payloads

The first hidden tile of a row block normalises the rows, stores them in the scratch, starts the output from the residual
and the remainder, and adds its own share; a middle tile adds its share; the last one adds its share and normalises. -/

set_option maxRecDepth 16384

@[expose] public section
noncomputable section

namespace Cert.FfnV

open Idealize.ShloMosaic Idealize.ShloMosaic.Tactic Cert.FfnIdeal Cert.FfnIdeal.Gen
open Idealize.ShloMosaic.TcCoe

variable (m : (ℓ : Loc nD τ sig) → Buf (Elt Ideal) ℓ) (c : Dev nD)

/-- The first hidden tile of a row block. -/
theorem first_out (t : Fin cfg0.N) (h0 : t.val % 5 = 0) (h1 : ¬t.val % 5 = 4) :
    (outsAt0 m c t.val t.isLt).1 = k0_pay1 (iblk m c 2 t) (iblk m c 3 t) (iblk m c 4 t)
      (k0_pay6 (iblk m c 0 t) (iblk m c 1 t) (iblk m c 5 t) (iblk m c 6 t) (iblk m c 7 t))
      (k0_pay5 (iblk m c 0 t) (iblk m c 1 t)) := by
  rw [outsAt0_A m c t h0 h1]
  frame_out

theorem first_scratch (t : Fin cfg0.N) (h0 : t.val % 5 = 0) (h1 : ¬t.val % 5 = 4) :
    (outsAt0 m c t.val t.isLt).2 = k0_pay5 (iblk m c 0 t) (iblk m c 1 t) := by
  rw [outsAt0_A m c t h0 h1]
  frame_out

/-- A middle hidden tile. -/
theorem middle_out (t : Fin cfg0.N) (h0 : ¬t.val % 5 = 0) (h1 : ¬t.val % 5 = 4) (hp : t.val - 1 < cfg0.N) :
    (outsAt0 m c t.val t.isLt).1 = k0_pay1 (iblk m c 2 t) (iblk m c 3 t) (iblk m c 4 t)
      (outsAt0 m c (t.val - 1) hp).1 (outsAt0 m c (t.val - 1) hp).2 := by
  rw [outsAt0_B m c t h0 h1]
  frame_out
  exact congrArg (k0_pay1 _ _ _ _) ((Memref.isWhole_whole cc0_scratch0).read_unread _)

theorem middle_scratch (t : Fin cfg0.N) (h0 : ¬t.val % 5 = 0) (h1 : ¬t.val % 5 = 4) (hp : t.val - 1 < cfg0.N) :
    (outsAt0 m c t.val t.isLt).2 = (outsAt0 m c (t.val - 1) hp).2 := by
  rw [outsAt0_B m c t h0 h1]
  rfl

/-- The last hidden tile. -/
theorem last_out (t : Fin cfg0.N) (h0 : ¬t.val % 5 = 0) (h1 : t.val % 5 = 4) (hp : t.val - 1 < cfg0.N) :
    (outsAt0 m c t.val t.isLt).1 = k0_pay2 (k0_pay1 (iblk m c 2 t) (iblk m c 3 t) (iblk m c 4 t)
      (outsAt0 m c (t.val - 1) hp).1 (outsAt0 m c (t.val - 1) hp).2) (iblk m c 8 t) := by
  rw [outsAt0_C m c t h0 h1]
  frame_out
  exact congrArg (fun s => k0_pay2 (k0_pay1 _ _ _ _ s) _) ((Memref.isWhole_whole cc0_scratch0).read_unread _)

end Cert.FfnV
-- ==== Proof.Ffn.Pay.lean ====
module
public import proofs.«01_k».proof.Proof.Gen.FfnIdeal.Skeleton
public import Idealize.ShloMosaic.PureOps.Ideal
public import Idealize.ShloMosaic.PureOps.Ideal.Laws
public import proofs.«01_k».proof.Proof.Attn.Tile

/-! # The feed-forward kernel's payloads, read at an index -/

set_option maxRecDepth 16384

@[expose] public section
noncomputable section

namespace Cert.FfnV

open Idealize.ShloMosaic Cert.FfnIdeal Cert.FfnIdeal.Gen
open scoped BigOperators

/-- A row over its root mean square, times the gain. -/
def rms (x g : Fin 2048 → EReal) (k : Fin 2048) : EReal :=
  x k * Ideal.rsqrt (Ideal.div (∑ e, x e * x e) (Ideal.ofBits .f32 0x45000000#32) + Ideal.ofBits .f32 0x358637BD#32) * g k

/-- A row's product with a column. -/
def dot (h w : Fin 2048 → EReal) : EReal := ∑ k, h k * w k

/-- The gated value of one hidden column, halved. -/
def act (a b : EReal) : EReal := Ideal.ofBits .f32 0x3F000000#32 * (a * Ideal.logistic a) * b

theorem pay4_apply (x : Vec Ideal S512x2048 .f32) (g : Vec Ideal S1x2048 .f32) (r : Fin 512) (k : Fin 2048) :
    k0_pay4 (F := Ideal) x g (ix2 r k) = rms (fun e => x (ix2 r e)) (fun e => g (ix2 0 e)) k := by
  unfold rms
  unfold_payloads
  pointwise

theorem pay5_apply (x : Vec Ideal S512x2048 .f32) (g : Vec Ideal S1x2048 .f32) (r : Fin 512) (k : Fin 2048) :
    k0_pay5 (F := Ideal) x g (ix2 r k) = rms (fun e => x (ix2 r e)) (fun e => g (ix2 0 e)) k := by
  rw [← pay4_apply]
  unfold k0_pay5
  pointwise

theorem pay2_apply (x : Vec Ideal S512x2048 .f32) (g : Vec Ideal S1x2048 .f32) (r : Fin 512) (k : Fin 2048) :
    k0_pay2 (F := Ideal) x g (ix2 r k) = rms (fun e => x (ix2 r e)) (fun e => g (ix2 0 e)) k := by
  unfold rms
  unfold_payloads
  pointwise

theorem pay1_apply (wg wu : Vec Ideal S1x2048x1024 .bf16) (wd : Vec Ideal S1x1024x2048 .bf16) (acc : Vec Ideal S512x2048 .f32)
    (h : Vec Ideal S512x2048 .bf16) (r : Fin 512) (d : Fin 2048) :
    k0_pay1 (F := Ideal) wg wu wd acc h (ix2 r d)
      = acc (ix2 r d) + ∑ j : Fin 1024, act (dot (fun k => h (ix2 r k)) (fun k => wg (ix3 0 k j)))
          (dot (fun k => h (ix2 r k)) (fun k => wu (ix3 0 k j))) * wd (ix3 0 j d) := by
  unfold act dot
  unfold_payloads
  pointwise

theorem pay6_apply (x : Vec Ideal S512x2048 .f32) (g : Vec Ideal S1x2048 .f32) (wg wu : Vec Ideal S2048x384 .bf16)
    (wd : Vec Ideal S384x2048 .bf16) (r : Fin 512) (d : Fin 2048) :
    k0_pay6 (F := Ideal) x g wg wu wd (ix2 r d)
      = x (ix2 r d) + ∑ j : Fin 384, act (dot (rms (fun e => x (ix2 r e)) (fun e => g (ix2 0 e))) (fun k => wg (ix2 k j)))
          (dot (rms (fun e => x (ix2 r e)) (fun e => g (ix2 0 e))) (fun k => wu (ix2 k j))) * wd (ix2 j d) := by
  unfold act dot
  simp only [← pay4_apply]
  unfold k0_pay6 k0_pay3
  generalize k0_pay4 (F := Ideal) x g = h
  pointwise

end Cert.FfnV
-- ==== Proof.Ffn.Blocks.lean ====
module
public import proofs.«01_k».proof.Proof.Ffn.Case
public import proofs.«01_k».proof.Proof.Ffn.Pay

/-! # The blocks a grid step reads, by the launch's arguments

Grid point `5 i + f` reads row block `i` of the residual and hidden tile `f` of the weights; the columns from 5120 on, the
gains and the norms are read whole at every point. -/

set_option maxRecDepth 16384

@[expose] public section
noncomputable section

namespace Cert.FfnV

open Idealize.ShloMosaic Cert.FfnIdeal Cert.FfnIdeal.Gen Idealize.ShloMosaic.TcCoe Idealize.SL.Sem
open scoped BigOperators

variable (m : (ℓ : Loc nD τ sig) → Buf (Elt Ideal) ℓ) (c : Dev nD)

/-- A row of the residual: row `R % 2048` of batch `R / 2048`. -/
def xrow (R : Fin 8192) (e : Fin 2048) : EReal :=
  m ((c : Thread nD τ).loc main_arg0) (ix3 (⟨R.val / 2048, by omega⟩ : Fin 4) (⟨R.val % 2048, by omega⟩ : Fin 2048) e)
def gain (e : Fin 2048) : EReal := m ((c : Thread nD τ).loc main_arg1) (ix2 0 e)
def gateW (j : Fin 5504) (k : Fin 2048) : EReal := m ((c : Thread nD τ).loc main_arg2) (ix3 0 k j)
def upW (j : Fin 5504) (k : Fin 2048) : EReal := m ((c : Thread nD τ).loc main_arg3) (ix3 0 k j)
def downW (j : Fin 5504) (d : Fin 2048) : EReal := m ((c : Thread nD τ).loc main_arg4) (ix3 0 j d)
def fin (e : Fin 2048) : EReal := m ((c : Thread nD τ).loc main_arg5) (ix1 e)

theorem V_x : V m c main_v15 = shapeCast S8192x2048 (m ((c : Thread nD τ).loc main_arg0)) shapeCasts_S4x2048x2048_S8192x2048 := by
  dsimp only [V, hostOps0]; after_results; rfl

theorem V_g : V m c main_v17 = shapeCast S1x2048 (shapeCast S2048 (m ((c : Thread nD τ).loc main_arg1)) shapeCasts_S1x2048_S2048)
    shapeCasts_S2048_S1x2048 := by
  dsimp only [V, hostOps0]; after_results; rfl

theorem V_fin : V m c main_v18 = shapeCast S1x2048 (m ((c : Thread nD τ).loc main_arg5)) shapeCasts_S2048_S1x2048 := by
  dsimp only [V, hostOps0]; after_results; rfl

theorem V_gate : V m c main_v10 = truncf (F := Ideal) .bf16 (φ := .f32) (extractStridedSlice S1x2048x5120 ![0, 0, 0]
    (m ((c : Thread nD τ).loc main_arg2)) slices_S1x2048x5504_S1x2048x5120_0_0_0) bitsLt_bf16_f32 := by
  dsimp only [V, hostOps0]; after_results

theorem V_up : V m c main_v12 = truncf (F := Ideal) .bf16 (φ := .f32) (extractStridedSlice S1x2048x5120 ![0, 0, 0]
    (m ((c : Thread nD τ).loc main_arg3)) slices_S1x2048x5504_S1x2048x5120_0_0_0) bitsLt_bf16_f32 := by
  dsimp only [V, hostOps0]; after_results

theorem V_down : V m c main_v14 = truncf (F := Ideal) .bf16 (φ := .f32) (extractStridedSlice S1x5120x2048 ![0, 0, 0]
    (m ((c : Thread nD τ).loc main_arg4)) slices_S1x5504x2048_S1x5120x2048_0_0_0) bitsLt_bf16_f32 := by
  dsimp only [V, hostOps0]; after_results

theorem V_gateR : V m c main_v2 = truncf (F := Ideal) .bf16 (φ := .f32) (shapeCast S2048x384 (extractStridedSlice S1x2048x384 ![0, 0, 5120]
    (m ((c : Thread nD τ).loc main_arg2)) slices_S1x2048x5504_S1x2048x384_0_0_5120) shapeCasts_S1x2048x384_S2048x384) bitsLt_bf16_f32 := by
  dsimp only [V, hostOps0]; after_results; rfl

theorem V_upR : V m c main_v5 = truncf (F := Ideal) .bf16 (φ := .f32) (shapeCast S2048x384 (extractStridedSlice S1x2048x384 ![0, 0, 5120]
    (m ((c : Thread nD τ).loc main_arg3)) slices_S1x2048x5504_S1x2048x384_0_0_5120) shapeCasts_S1x2048x384_S2048x384) bitsLt_bf16_f32 := by
  dsimp only [V, hostOps0]; after_results; rfl

theorem V_downR : V m c main_v8 = truncf (F := Ideal) .bf16 (φ := .f32) (shapeCast S384x2048 (extractStridedSlice S1x384x2048 ![0, 5120, 0]
    (m ((c : Thread nD τ).loc main_arg4)) slices_S1x5504x2048_S1x384x2048_0_5120_0) shapeCasts_S1x384x2048_S384x2048) bitsLt_bf16_f32 := by
  dsimp only [V, hostOps0]; after_results; rfl

/-- The block every window reads at a grid point. -/
theorem idx_facts : ∀ t : Fin cfg0.N, win0_0.index t = ![t.val / 5, 0] ∧ win0_1.index t = ![0, 0]
    ∧ win0_2.index t = ![0, 0, t.val % 5] ∧ win0_3.index t = ![0, 0, t.val % 5] ∧ win0_4.index t = ![0, t.val % 5, 0]
    ∧ win0_5.index t = ![0, 0] ∧ win0_6.index t = ![0, 0] ∧ win0_7.index t = ![0, 0] ∧ win0_8.index t = ![0, 0] :=
  (by decide +kernel : ∀ t : Fin grid0.N, _)

theorem at2 {a b : ℕ} (i : (⟨2, ![a, b]⟩ : Shape).Idx) (x : Fin a) (y : Fin b) (h0 : (i 0).val = x.val) (h1 : (i 1).val = y.val) :
    i = ix2 x y :=
  funext fun k => match k with | ⟨0, _⟩ => Fin.ext h0 | ⟨1, _⟩ => Fin.ext h1

theorem at3 {a b d : ℕ} (i : (⟨3, ![a, b, d]⟩ : Shape).Idx) (x : Fin a) (y : Fin b) (z : Fin d) (h0 : (i 0).val = x.val)
    (h1 : (i 1).val = y.val) (h2 : (i 2).val = z.val) : i = ix3 x y z :=
  funext fun k => match k with | ⟨0, _⟩ => Fin.ext h0 | ⟨1, _⟩ => Fin.ext h1 | ⟨2, _⟩ => Fin.ext h2

/-- The grid point of a row block and a hidden tile. -/
abbrev pt (i : Fin 16) (f : ℕ) (hf : f < 5) : Fin cfg0.N :=
  ⟨5 * i.val + f, by show _ < grid0.N; rw [show grid0.N = 80 from by decide]; omega⟩

/-- A row of the array by its block and its place in the block. -/
abbrev rowOf (i : Fin 16) (r : Fin 512) : Fin 8192 := ⟨512 * i.val + r.val, by omega⟩

theorem merge_rows (x : Vec Ideal S4x2048x2048 .f32) (h) (R : Fin 8192) (e : Fin 2048) :
    shapeCast S8192x2048 x h (ix2 R e) = x (ix3 (⟨R.val / 2048, by omega⟩ : Fin 4) (⟨R.val % 2048, by omega⟩ : Fin 2048) e) := by
  refine shapeCast_apply _ _ _ _ ?_
  rw [Shape.rowMajor_val_three, Shape.rowMajor_val_two]
  show (R.val / 2048 * 2048 + R.val % 2048) * 2048 + e.val = R.val * 2048 + e.val
  omega

/-- A hidden column of tile `f`. -/
abbrev col (f : ℕ) (hf : f < 5) (j : Fin 1024) : Fin 5504 := ⟨1024 * f + j.val, by omega⟩
/-- A hidden column of the remainder. -/
abbrev colR (j : Fin 384) : Fin 5504 := ⟨5120 + j.val, by omega⟩

section
variable (i : Fin 16) (f : ℕ) (hf : f < 5)

theorem blk_x (r : Fin 512) (e : Fin 2048) : iblk m c 0 (pt i f hf) (ix2 r e) = xrow m c (rowOf i r) e := by
  show V m c main_v15 (((cfg0.win 0).blk (pt i f hf)).view.emb (ix2 r e)) = _
  have hi := (idx_facts (pt i f hf)).1
  rw [at2 (((cfg0.win 0).blk (pt i f hf)).view.emb (ix2 r e)) (rowOf i r) e
    (by show win0_0.index (pt i f hf) 0 * 512 + 1 * r.val = _; rw [hi]; show (5 * i.val + f) / 5 * 512 + 1 * r.val = 512 * i.val + r.val; omega)
    (by show win0_0.index (pt i f hf) 1 * 2048 + 1 * e.val = _; rw [hi]; show 0 * 2048 + 1 * e.val = e.val; omega), V_x]
  exact merge_rows _ _ _ _

theorem blk_g (t : Fin cfg0.N) (e : Fin 2048) : iblk m c 1 t (ix2 0 e) = gain m c e := by
  show V m c main_v17 (((cfg0.win 1).blk t).view.emb (ix2 0 e)) = _
  have hi := (idx_facts t).2.1
  rw [at2 (((cfg0.win 1).blk t).view.emb (ix2 0 e)) 0 e
    (by show win0_1.index t 0 * 1 + 1 * 0 = _; rw [hi]; rfl)
    (by show win0_1.index t 1 * 2048 + 1 * e.val = _; rw [hi]; show 0 * 2048 + 1 * e.val = e.val; omega), V_g, shapeCast_shapeCast]
  rfl

theorem blk_fin (t : Fin cfg0.N) (e : Fin 2048) : iblk m c 8 t (ix2 0 e) = fin m c e := by
  show V m c main_v18 (((cfg0.win 8).blk t).view.emb (ix2 0 e)) = _
  have hi := (idx_facts t).2.2.2.2.2.2.2.2
  rw [at2 (((cfg0.win 8).blk t).view.emb (ix2 0 e)) 0 e
    (by show win0_8.index t 0 * 1 + 1 * 0 = _; rw [hi]; rfl)
    (by show win0_8.index t 1 * 2048 + 1 * e.val = _; rw [hi]; show 0 * 2048 + 1 * e.val = e.val; omega), V_fin]
  unfold fin
  pointwise

theorem slice3 {a b d a' b' d' : ℕ} {φ : EltTy} (x : Vec Ideal ⟨3, ![a, b, d]⟩ φ) (o : Fin 3 → ℕ) (h) (i : Fin a') (j : Fin b') (k : Fin d')
    (i' : Fin a) (j' : Fin b) (k' : Fin d) (h0 : i'.val = o 0 + i.val) (h1 : j'.val = o 1 + j.val) (h2 : k'.val = o 2 + k.val) :
    extractStridedSlice (⟨3, ![a', b', d']⟩ : Shape) o x h (ix3 i j k) = x (ix3 i' j' k') := by
  show x _ = x _
  exact congrArg x (at3 _ _ _ _ h0.symm h1.symm h2.symm)

theorem blk_gate (k : Fin 2048) (j : Fin 1024) : iblk m c 2 (pt i f hf) (ix3 0 k j) = gateW m c (col f hf j) k := by
  show V m c main_v10 (((cfg0.win 2).blk (pt i f hf)).view.emb (ix3 0 k j)) = _
  have hi := (idx_facts (pt i f hf)).2.2.1
  rw [at3 (((cfg0.win 2).blk (pt i f hf)).view.emb (ix3 0 k j)) 0 k (⟨1024 * f + j.val, by omega⟩ : Fin 5120)
    (by show win0_2.index (pt i f hf) 0 * 1 + 1 * 0 = _; rw [hi]; rfl)
    (by show win0_2.index (pt i f hf) 1 * 2048 + 1 * k.val = _; rw [hi]; show 0 * 2048 + 1 * k.val = k.val; omega)
    (by show win0_2.index (pt i f hf) 2 * 1024 + 1 * j.val = _; rw [hi]; show (5 * i.val + f) % 5 * 1024 + 1 * j.val = 1024 * f + j.val; omega),
    V_gate, ValueIdx.truncf_apply]
  exact slice3 _ _ _ _ _ _ _ _ _ rfl (Nat.zero_add _).symm (Nat.zero_add _).symm

theorem blk_up (k : Fin 2048) (j : Fin 1024) : iblk m c 3 (pt i f hf) (ix3 0 k j) = upW m c (col f hf j) k := by
  show V m c main_v12 (((cfg0.win 3).blk (pt i f hf)).view.emb (ix3 0 k j)) = _
  have hi := (idx_facts (pt i f hf)).2.2.2.1
  rw [at3 (((cfg0.win 3).blk (pt i f hf)).view.emb (ix3 0 k j)) 0 k (⟨1024 * f + j.val, by omega⟩ : Fin 5120)
    (by show win0_3.index (pt i f hf) 0 * 1 + 1 * 0 = _; rw [hi]; rfl)
    (by show win0_3.index (pt i f hf) 1 * 2048 + 1 * k.val = _; rw [hi]; show 0 * 2048 + 1 * k.val = k.val; omega)
    (by show win0_3.index (pt i f hf) 2 * 1024 + 1 * j.val = _; rw [hi]; show (5 * i.val + f) % 5 * 1024 + 1 * j.val = 1024 * f + j.val; omega),
    V_up, ValueIdx.truncf_apply]
  exact slice3 _ _ _ _ _ _ _ _ _ rfl (Nat.zero_add _).symm (Nat.zero_add _).symm

theorem blk_down (j : Fin 1024) (d : Fin 2048) : iblk m c 4 (pt i f hf) (ix3 0 j d) = downW m c (col f hf j) d := by
  show V m c main_v14 (((cfg0.win 4).blk (pt i f hf)).view.emb (ix3 0 j d)) = _
  have hi := (idx_facts (pt i f hf)).2.2.2.2.1
  rw [at3 (((cfg0.win 4).blk (pt i f hf)).view.emb (ix3 0 j d)) 0 (⟨1024 * f + j.val, by omega⟩ : Fin 5120) d
    (by show win0_4.index (pt i f hf) 0 * 1 + 1 * 0 = _; rw [hi]; rfl)
    (by show win0_4.index (pt i f hf) 1 * 1024 + 1 * j.val = _; rw [hi]; show (5 * i.val + f) % 5 * 1024 + 1 * j.val = 1024 * f + j.val; omega)
    (by show win0_4.index (pt i f hf) 2 * 2048 + 1 * d.val = _; rw [hi]; show 0 * 2048 + 1 * d.val = d.val; omega),
    V_down, ValueIdx.truncf_apply]
  exact slice3 _ _ _ _ _ _ _ _ _ rfl (Nat.zero_add _).symm (Nat.zero_add _).symm

theorem drop_one {a b : ℕ} {φ : EltTy} (x : Vec Ideal ⟨3, ![1, a, b]⟩ φ) (h) (i : Fin a) (j : Fin b) :
    shapeCast (⟨2, ![a, b]⟩ : Shape) x h (ix2 i j) = x (ix3 0 i j) := by
  refine shapeCast_apply _ _ _ _ ?_
  rw [Shape.rowMajor_val_three, Shape.rowMajor_val_two]
  show (0 * a + i.val) * b + j.val = i.val * b + j.val
  rw [Nat.zero_mul, Nat.zero_add]

theorem blk_gateR (t : Fin cfg0.N) (k : Fin 2048) (j : Fin 384) : iblk m c 5 t (ix2 k j) = gateW m c (colR j) k := by
  show V m c main_v2 (((cfg0.win 5).blk t).view.emb (ix2 k j)) = _
  have hi := (idx_facts t).2.2.2.2.2.1
  rw [at2 (((cfg0.win 5).blk t).view.emb (ix2 k j)) k j
    (by show win0_5.index t 0 * 2048 + 1 * k.val = _; rw [hi]; show 0 * 2048 + 1 * k.val = k.val; omega)
    (by show win0_5.index t 1 * 384 + 1 * j.val = _; rw [hi]; show 0 * 384 + 1 * j.val = j.val; omega), V_gateR, ValueIdx.truncf_apply]
  refine (drop_one _ _ _ _).trans ?_
  exact slice3 _ _ slices_S1x2048x5504_S1x2048x384_0_0_5120 _ _ _ _ _ _ rfl (Nat.zero_add _).symm rfl

theorem blk_upR (t : Fin cfg0.N) (k : Fin 2048) (j : Fin 384) : iblk m c 6 t (ix2 k j) = upW m c (colR j) k := by
  show V m c main_v5 (((cfg0.win 6).blk t).view.emb (ix2 k j)) = _
  have hi := (idx_facts t).2.2.2.2.2.2.1
  rw [at2 (((cfg0.win 6).blk t).view.emb (ix2 k j)) k j
    (by show win0_6.index t 0 * 2048 + 1 * k.val = _; rw [hi]; show 0 * 2048 + 1 * k.val = k.val; omega)
    (by show win0_6.index t 1 * 384 + 1 * j.val = _; rw [hi]; show 0 * 384 + 1 * j.val = j.val; omega), V_upR, ValueIdx.truncf_apply]
  refine (drop_one _ _ _ _).trans ?_
  exact slice3 _ _ slices_S1x2048x5504_S1x2048x384_0_0_5120 _ _ _ _ _ _ rfl (Nat.zero_add _).symm rfl

theorem blk_downR (t : Fin cfg0.N) (j : Fin 384) (d : Fin 2048) : iblk m c 7 t (ix2 j d) = downW m c (colR j) d := by
  show V m c main_v8 (((cfg0.win 7).blk t).view.emb (ix2 j d)) = _
  have hi := (idx_facts t).2.2.2.2.2.2.2.1
  rw [at2 (((cfg0.win 7).blk t).view.emb (ix2 j d)) j d
    (by show win0_7.index t 0 * 384 + 1 * j.val = _; rw [hi]; show 0 * 384 + 1 * j.val = j.val; omega)
    (by show win0_7.index t 1 * 2048 + 1 * d.val = _; rw [hi]; show 0 * 2048 + 1 * d.val = d.val; omega), V_downR, ValueIdx.truncf_apply]
  refine (drop_one _ _ _ _).trans ?_
  exact slice3 _ _ slices_S1x5504x2048_S1x384x2048_0_5120_0 _ _ _ _ _ _ rfl rfl (Nat.zero_add _).symm

end

end Cert.FfnV
-- ==== Proof.Ffn.KernelValue.lean ====
module
public import proofs.«01_k».proof.Proof.Ffn.Blocks
public import proofs.«01_k».proof.Proof.Gen.FfnIdeal.Value

/-! # The feed-forward kernel's result array, read at an index

The output block of a row block is the residual plus the remainder's share, then one hidden tile's share after another, then
the final norm. -/

set_option maxRecDepth 16384

@[expose] public section
noncomputable section

namespace Cert.FfnV

open Idealize.ShloMosaic Cert.FfnIdeal Cert.FfnIdeal.Gen Idealize.ShloMosaic.TcCoe Idealize.SL.Sem
open scoped BigOperators

variable (m : (ℓ : Loc nD τ sig) → Buf (Elt Ideal) ℓ) (c : Dev nD)

/-- The normalised row. -/
def hid (R : Fin 8192) : Fin 2048 → EReal := rms (xrow m c R) (gain m c)

/-- Hidden column `j`'s share of the row's output. -/
def share (R : Fin 8192) (d : Fin 2048) (j : Fin 5504) : EReal :=
  act (dot (hid m c R) (gateW m c j)) (dot (hid m c R) (upW m c j)) * downW m c j d

/-- The same by a column's number. -/
def shareN (R : Fin 8192) (d : Fin 2048) (j : ℕ) : EReal := if h : j < 5504 then share m c R d ⟨j, h⟩ else 0

theorem shareN_val (R : Fin 8192) (d : Fin 2048) (j : Fin 5504) : shareN m c R d j.val = share m c R d j := by
  unfold shareN
  rw [dif_pos j.isLt]

/-- The residual with the remainder's share. -/
def start (R : Fin 8192) (d : Fin 2048) : EReal := xrow m c R d + ∑ j : Fin 384, share m c R d (colR j)

section
variable (i : Fin 16) (f : ℕ) (hf : f < 5)

theorem scratch_val (t : Fin cfg0.N) (e : t = pt i f hf) (r : Fin 512) (k : Fin 2048) :
    k0_pay5 (F := Ideal) (iblk m c 0 t) (iblk m c 1 t) (ix2 r k) = hid m c (rowOf i r) k := by
  subst e
  refine (pay5_apply _ _ r k).trans ?_
  unfold hid
  rw [show (fun e => iblk m c 0 (pt i f hf) (ix2 r e)) = xrow m c (rowOf i r) from funext fun e => blk_x m c i f hf r e,
    show (fun e => iblk m c 1 (pt i f hf) (ix2 0 e)) = gain m c from funext fun e => blk_g m c (pt i f hf) e]

theorem start_val (r : Fin 512) (d : Fin 2048) :
    k0_pay6 (F := Ideal) (iblk m c 0 (pt i f hf)) (iblk m c 1 (pt i f hf)) (iblk m c 5 (pt i f hf)) (iblk m c 6 (pt i f hf))
      (iblk m c 7 (pt i f hf)) (ix2 r d) = start m c (rowOf i r) d := by
  refine (pay6_apply _ _ _ _ _ r d).trans ?_
  unfold start share hid
  refine congrArg₂ (· + ·) (blk_x m c i f hf r d) (Finset.sum_congr rfl fun j _ => ?_)
  rw [show (fun e => iblk m c 0 (pt i f hf) (ix2 r e)) = xrow m c (rowOf i r) from funext fun e => blk_x m c i f hf r e,
    show (fun e => iblk m c 1 (pt i f hf) (ix2 0 e)) = gain m c from funext fun e => blk_g m c (pt i f hf) e,
    show (fun k => iblk m c 5 (pt i f hf) (ix2 k j)) = gateW m c (colR j) from funext fun k => blk_gateR m c (pt i f hf) k j,
    show (fun k => iblk m c 6 (pt i f hf) (ix2 k j)) = upW m c (colR j) from funext fun k => blk_upR m c (pt i f hf) k j,
    blk_downR]

/-- One hidden tile's step. -/
theorem tile_val (acc : Vec Ideal S512x2048 .f32) (h : Vec Ideal S512x2048 .bf16)
    (hh : ∀ r k, h (ix2 r k) = hid m c (rowOf i r) k) (r : Fin 512) (d : Fin 2048) :
    k0_pay1 (F := Ideal) (iblk m c 2 (pt i f hf)) (iblk m c 3 (pt i f hf)) (iblk m c 4 (pt i f hf)) acc h (ix2 r d)
      = acc (ix2 r d) + ∑ j ∈ Finset.range 1024, shareN m c (rowOf i r) d (1024 * f + j) := by
  refine (pay1_apply _ _ _ _ _ r d).trans (congrArg (fun s => acc (ix2 r d) + s) ?_)
  rw [Finset.sum_range]
  refine Finset.sum_congr rfl fun j _ => ?_
  rw [show shareN m c (rowOf i r) d (1024 * f + j.val) = share m c (rowOf i r) d (col f hf j) from
    shareN_val m c (rowOf i r) d (col f hf j)]
  unfold share
  rw [show (fun k => h (ix2 r k)) = hid m c (rowOf i r) from funext fun k => hh r k,
    show (fun k => iblk m c 2 (pt i f hf) (ix3 0 k j)) = gateW m c (col f hf j) from funext fun k => blk_gate m c i f hf k j,
    show (fun k => iblk m c 3 (pt i f hf) (ix3 0 k j)) = upW m c (col f hf j) from funext fun k => blk_up m c i f hf k j,
    blk_down]

end

/-- What a row block's points before the last leave: the normalised rows in the scratch, the shares up to the tile in the
    output. -/
theorem upto (i : Fin 16) : ∀ (f : ℕ) (hf : f < 4),
    (∀ r k, (outsAt0 m c (pt i f (by omega)).val (pt i f (by omega)).isLt).2 (ix2 r k) = hid m c (rowOf i r) k)
    ∧ ∀ r d, (outsAt0 m c (pt i f (by omega)).val (pt i f (by omega)).isLt).1 (ix2 r d)
        = start m c (rowOf i r) d + ∑ j ∈ Finset.range (1024 * (f + 1)), shareN m c (rowOf i r) d j
  | 0, hf => by
    have h0 : (pt i 0 (by omega)).val % 5 = 0 := by show (5 * i.val + 0) % 5 = 0; omega
    have h1 : ¬(pt i 0 (by omega)).val % 5 = 4 := by omega
    have hs : ∀ r k, (outsAt0 m c (pt i 0 (by omega)).val (pt i 0 (by omega)).isLt).2 (ix2 r k) = hid m c (rowOf i r) k := fun r k => by
      rw [first_scratch m c _ h0 h1]
      exact scratch_val m c i 0 (by omega) _ rfl r k
    refine ⟨hs, fun r d => ?_⟩
    rw [first_out m c _ h0 h1]
    refine (tile_val m c i 0 (by omega) _ _ (fun r k => scratch_val m c i 0 (by omega) _ rfl r k) r d).trans ?_
    rw [start_val]
    refine congrArg (fun s => start m c (rowOf i r) d + s) (Finset.sum_congr rfl fun j _ => ?_)
    rw [Nat.mul_zero, Nat.zero_add]
  | f + 1, hf => by
    obtain ⟨ps, po⟩ := upto i f (by omega)
    have h0 : ¬(pt i (f + 1) (by omega)).val % 5 = 0 := by show ¬(5 * i.val + (f + 1)) % 5 = 0; omega
    have h1 : ¬(pt i (f + 1) (by omega)).val % 5 = 4 := by show ¬(5 * i.val + (f + 1)) % 5 = 4; omega
    have hp : (pt i (f + 1) (by omega)).val - 1 < cfg0.N := (pt i f (by omega)).isLt
    refine ⟨fun r k => ?_, fun r d => ?_⟩
    · rw [middle_scratch m c _ h0 h1 hp]
      exact ps r k
    · rw [middle_out m c _ h0 h1 hp]
      refine (tile_val m c i (f + 1) (by omega) _ _ ps r d).trans ?_
      refine (congrArg (· + _) (po r d)).trans ?_
      rw [add_assoc, show 1024 * (f + 1 + 1) = 1024 * (f + 1) + 1024 from by ring, Finset.sum_range_add]

/-- The row after all tiles, before the final norm. -/
def total (R : Fin 8192) (d : Fin 2048) : EReal := xrow m c R d + ∑ j, share m c R d j

theorem total_eq (R : Fin 8192) (d : Fin 2048) :
    start m c R d + ∑ j ∈ Finset.range 5120, shareN m c R d j = total m c R d := by
  unfold start total
  rw [add_assoc, show ∑ j, share m c R d j = ∑ j ∈ Finset.range (5120 + 384), shareN m c R d j from by
    rw [Finset.sum_range]; exact Finset.sum_congr rfl fun j _ => (shareN_val m c R d j).symm]
  rw [Finset.sum_range_add, add_comm (∑ j : Fin 384, _)]
  refine congrArg (fun s => xrow m c R d + (_ + s)) ?_
  rw [Finset.sum_range]
  exact Finset.sum_congr rfl fun j _ => (shareN_val m c R d (colR j)).symm

/-- What a row block's last point leaves. -/
theorem last (i : Fin 16) (r : Fin 512) (d : Fin 2048) :
    (outsAt0 m c (pt i 4 (by omega)).val (pt i 4 (by omega)).isLt).1 (ix2 r d) = rms (total m c (rowOf i r)) (fin m c) d := by
  obtain ⟨ps, po⟩ := upto m c i 3 (by omega)
  have h0 : ¬(pt i 4 (by omega)).val % 5 = 0 := by show ¬(5 * i.val + 4) % 5 = 0; omega
  have h1 : (pt i 4 (by omega)).val % 5 = 4 := by show (5 * i.val + 4) % 5 = 4; omega
  have hp : (pt i 4 (by omega)).val - 1 < cfg0.N := (pt i 3 (by omega)).isLt
  rw [last_out m c _ h0 h1 hp]
  refine (pay2_apply _ _ r d).trans ?_
  refine congrArg₂ (fun a b => rms a b d) (funext fun e => ?_) (funext fun e => blk_fin m c _ e)
  refine (tile_val m c i 4 (by omega) _ _ ps r e).trans ?_
  refine (congrArg (· + _) (po r e)).trans ?_
  rw [add_assoc, ← Finset.sum_range_add, total_eq]

/-- The result array's row `R`. -/
theorem result_apply (R : Fin 8192) (d : Fin 2048) : Value.G9 m c (ix2 R d) = rms (total m c R) (fin m c) d := by
  have hi : R.val / 512 < 16 := by omega
  have e : Value.pt9Of (ix2 R d) = (pt ⟨R.val / 512, hi⟩ 4 (by omega)).val := by
    show 5 * (1 * (R.val / 512 - 0) + 1 * (d.val / 2048 - 0)) + 4 = 5 * (R.val / 512) + 4
    have : d.val / 2048 = 0 := Nat.div_eq_of_lt d.isLt
    omega
  have hR : rowOf ⟨R.val / 512, hi⟩ ⟨R.val % 512, by omega⟩ = R := Fin.ext (by show 512 * (R.val / 512) + R.val % 512 = R.val; omega)
  have hl : Value.loc9Of (ix2 R d) = ix2 (⟨R.val % 512, by omega⟩ : Fin 512) d := by
    funext a
    match a with
    | ⟨0, _⟩ => exact Fin.ext rfl
    | ⟨1, _⟩ => exact Fin.ext (Nat.mod_eq_of_lt d.isLt)
  unfold Value.G9
  rw [dif_pos (by rw [e]; exact (pt ⟨R.val / 512, hi⟩ 4 (by omega)).isLt), hl]
  have hlast := last m c ⟨R.val / 512, hi⟩ ⟨R.val % 512, by omega⟩ d
  rw [hR] at hlast
  rw [← hlast, Value.outsAt0_sweep]
  exact congrArg (fun p => p.1 (ix2 (⟨R.val % 512, by omega⟩ : Fin 512) d)) (Value.fold0_congr m c _ _ _ _ e)

end Cert.FfnV
-- ==== Proof.Ffn.RefRead.lean ====
module
public import proofs.«01_k».proof.Proof.Gen.FfnRefIdeal.Read
public import proofs.«01_k».proof.Proof.Ffn.Pay

/-! # The feed-forward reference's result, read at an index -/

set_option maxRecDepth 16384

@[expose] public section
noncomputable section

namespace Cert.FfnV

open Idealize.ShloMosaic Cert.FfnRefIdeal Cert.FfnRefIdeal.Gen Cert.FfnRefIdeal.Read
open scoped BigOperators

variable (x0 : (⟨S4x2048x2048, .f32⟩ : BufTy).Contents (Elt Ideal)) (x1 : (⟨S1x2048, .f32⟩ : BufTy).Contents (Elt Ideal))
  (x2 x3 : (⟨S1x2048x5504, .f32⟩ : BufTy).Contents (Elt Ideal)) (x4 : (⟨S1x5504x2048, .f32⟩ : BufTy).Contents (Elt Ideal))
  (x5 : (⟨S2048, .f32⟩ : BufTy).Contents (Elt Ideal))

/-- The normalised row of batch `b`, position `t`. -/
abbrev hrow (b : Fin 4) (t : Fin 2048) : Fin 2048 → EReal := rms (fun e => x0 (ix3 b t e)) (fun e => x1 (ix2 0 e))

/-- The gated value of one hidden column. -/
def silu (a : EReal) : EReal := a * Ideal.logistic a

theorem zero_lit : (FloatOps.ofBits (F := Ideal) .f32 0x00000000#32 : EReal) = 0 := Ideal.ofBits_zero_f32

theorem ref_norm (b : Fin 4) (t k : Fin 2048) : val_main_v16 (F := Ideal) x0 x1 (ix3 b t k) = hrow x0 x1 b t k := by
  rw [val_main_v16_apply, val_main_v13_apply, val_main_v12_apply, val_main_v11_apply, val_main_v10_apply, val_main_v8_apply,
    val_main_v6_apply, val_main_v5_apply, val_main_v7_apply, val_main_v9_apply, val_main_cst_apply, val_main_cst_0_apply,
    val_main_cst_1_apply, val_main_v15_apply, val_main_v14_apply, val_main_v0_apply, zero_lit, zero_add]
  unfold hrow rms
  refine congrArg₂ (· * ·) (congrArg (fun s => _ * Ideal.rsqrt (Ideal.div s _ + _)) (Finset.sum_congr rfl fun e _ => ?_)) ?_
  · rw [val_main_v4_apply]
    have e1 : idx_main_v5 (idx_main_v6 (idx_main_v12 (ix3 b t k))) e = ix3 b t e :=
      funext fun a => match a with | ⟨0, _⟩ => rfl | ⟨1, _⟩ => rfl | ⟨2, _⟩ => rfl
    rw [e1]; rfl
  · exact congrArg x1 (funext fun a => match a with | ⟨0, _⟩ => rfl | ⟨1, _⟩ => Fin.ext (by simp))

theorem ref_gate (b : Fin 4) (t : Fin 2048) (j : Fin 5504) :
    val_main_v17 (F := Ideal) x0 x1 x2 (ix3 b t j) = dot (hrow x0 x1 b t) (fun k => x2 (ix3 0 k j)) := by
  rw [val_main_v17_apply]
  refine Finset.sum_congr rfl fun k _ => congrArg₂ (· * ·) ?_ ?_
  · exact (congrArg _ (funext fun a => match a with | ⟨0, _⟩ => rfl | ⟨1, _⟩ => rfl | ⟨2, _⟩ => rfl)).trans (ref_norm x0 x1 b t k)
  · rw [val_main_v1_apply]
    refine congrArg x2 (funext fun a => match a with | ⟨0, _⟩ => rfl | ⟨1, _⟩ => Fin.ext ?_ | ⟨2, _⟩ => Fin.ext ?_)
    · show (k.val * 5504 + j.val) / 5504 % 2048 = k.val
      omega
    · show (k.val * 5504 + j.val) % 5504 = j.val
      omega

theorem ref_up (b : Fin 4) (t : Fin 2048) (j : Fin 5504) :
    val_main_v19 (F := Ideal) x0 x1 x3 (ix3 b t j) = dot (hrow x0 x1 b t) (fun k => x3 (ix3 0 k j)) := by
  rw [val_main_v19_apply]
  refine Finset.sum_congr rfl fun k _ => congrArg₂ (· * ·) ?_ ?_
  · exact (congrArg _ (funext fun a => match a with | ⟨0, _⟩ => rfl | ⟨1, _⟩ => rfl | ⟨2, _⟩ => rfl)).trans (ref_norm x0 x1 b t k)
  · rw [val_main_v2_apply]
    refine congrArg x3 (funext fun a => match a with | ⟨0, _⟩ => rfl | ⟨1, _⟩ => Fin.ext ?_ | ⟨2, _⟩ => Fin.ext ?_)
    · show (k.val * 5504 + j.val) / 5504 % 2048 = k.val
      omega
    · show (k.val * 5504 + j.val) % 5504 = j.val
      omega

/-- One hidden column's value in the reference. -/
theorem ref_hidden (b : Fin 4) (t : Fin 2048) (j : Fin 5504) :
    val_main_v20 (F := Ideal) x0 x1 x2 x3 (ix3 b t j)
      = silu (dot (hrow x0 x1 b t) (fun k => x2 (ix3 0 k j))) * dot (hrow x0 x1 b t) (fun k => x3 (ix3 0 k j)) := by
  rw [val_main_v20_apply, val_main_v18_apply, val_main_call0_v5_apply, val_main_call0_v4_apply, val_main_call0_v3_apply,
    val_main_call0_v2_apply, val_main_call0_v1_apply, val_main_call0_v0_apply, val_main_call0_cst_apply, val_main_call0_cst_0_apply,
    ref_gate, ref_up]
  unfold silu Ideal.logistic
  rw [show (FloatOps.ofBits (F := Ideal) .f32 0x3F800000#32 : EReal) = 1 from Cert.Attn.ofBits_one]
  rfl

/-- The reference's residual stream after the half step. -/
def stream (b : Fin 4) (t e : Fin 2048) : EReal :=
  x0 (ix3 b t e) + Ideal.ofBits .f32 0x3F000000#32 * ∑ j : Fin 5504,
    (silu (dot (hrow x0 x1 b t) (fun k => x2 (ix3 0 k j))) * dot (hrow x0 x1 b t) (fun k => x3 (ix3 0 k j))) * x4 (ix3 0 j e)

theorem ref_stream (b : Fin 4) (t e : Fin 2048) : val_main_v24 (F := Ideal) x0 x1 x2 x3 x4 (ix3 b t e) = stream x0 x1 x2 x3 x4 b t e := by
  rw [val_main_v24_apply, val_main_v23_apply, val_main_v22_apply, val_main_cst_2_apply, val_main_v21_apply]
  unfold stream
  refine congrArg (fun s => _ + _ * s) (Finset.sum_congr rfl fun j _ => congrArg₂ (· * ·) ?_ ?_)
  · exact (congrArg _ (funext fun a => match a with | ⟨0, _⟩ => rfl | ⟨1, _⟩ => rfl | ⟨2, _⟩ => rfl)).trans (ref_hidden x0 x1 x2 x3 b t j)
  · rw [val_main_v3_apply]
    refine congrArg x4 (funext fun a => match a with | ⟨0, _⟩ => rfl | ⟨1, _⟩ => Fin.ext ?_ | ⟨2, _⟩ => Fin.ext ?_)
    · show (j.val * 2048 + e.val) / 2048 % 5504 = j.val
      omega
    · show (j.val * 2048 + e.val) % 2048 = e.val
      omega

theorem ref_result (b : Fin 4) (t d : Fin 2048) :
    val_main_v37 (F := Ideal) x0 x1 x2 x3 x4 x5 (ix3 b t d) = rms (stream x0 x1 x2 x3 x4 b t) (fun e => x5 (ix1 e)) d := by
  rw [val_main_v37_apply, val_main_v36_apply, val_main_v35_apply, val_main_v34_apply, val_main_v33_apply, val_main_v32_apply,
    val_main_v31_apply, val_main_v29_apply, val_main_v27_apply, val_main_v26_apply, val_main_v28_apply, val_main_v30_apply,
    val_main_cst_3_apply, val_main_cst_4_apply, val_main_cst_5_apply, zero_lit, zero_add, ref_stream]
  unfold rms
  refine congrArg₂ (· * ·) (congrArg (fun s => _ * Ideal.rsqrt (Ideal.div s _ + _)) (Finset.sum_congr rfl fun e _ => ?_)) ?_
  · rw [val_main_v25_apply]
    have e1 : idx_main_v26 (idx_main_v27 (idx_main_v33 (ix3 b t d))) e = ix3 b t e :=
      funext fun a => match a with | ⟨0, _⟩ => rfl | ⟨1, _⟩ => rfl | ⟨2, _⟩ => rfl
    rw [e1, ref_stream]; rfl
  · exact congrArg x5 (funext fun a => match a with | ⟨0, _⟩ => rfl)

/-- The result's row `R` is position `R % 2048` of batch `R / 2048`. -/
theorem ref_apply (R : Fin 8192) (d : Fin 2048) :
    val_main_v38 (F := Ideal) x0 x1 x2 x3 x4 x5 (ix2 R d)
      = rms (stream x0 x1 x2 x3 x4 (⟨R.val / 2048, by omega⟩ : Fin 4) (⟨R.val % 2048, by omega⟩ : Fin 2048)) (fun e => x5 (ix1 e)) d := by
  rw [val_main_v38_apply, ← ref_result]
  refine congrArg _ (funext fun a => match a with | ⟨0, _⟩ => Fin.ext ?_ | ⟨1, _⟩ => Fin.ext ?_ | ⟨2, _⟩ => Fin.ext ?_)
  · show (R.val * 2048 + d.val) / 4194304 = R.val / 2048
    omega
  · show (R.val * 2048 + d.val) / 2048 % 2048 = R.val % 2048
    omega
  · show (R.val * 2048 + d.val) % 2048 = d.val
    omega

end Cert.FfnV
-- ==== Proof.Ffn.Claim.lean ====
module
public import proofs.«01_k».proof.Defs
public import proofs.«01_k».proof.Proof.Ffn.KernelValue
public import proofs.«01_k».proof.Proof.Ffn.RefRead
public import proofs.«01_k».proof.Proof.Gen.FfnRefIdeal.Run

/-! # The feed-forward half step's claims -/

set_option maxRecDepth 16384

@[expose] public section
noncomputable section

namespace Cert.FfnV

open Idealize.ShloMosaic Idealize.SL.Sem Idealize.ShloMosaic.TcCoe
open scoped BigOperators

/-- The reference runs, leaves its arguments and ends with every counter at zero. -/
theorem frame_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

theorem half_eq : Ideal.ofBits .f32 0x3F000000#32 = ((1 / 2 : ℝ) : EReal) := by
  simp [Ideal.ofBits, Ideal.ieee, -EReal.coe_mul]; norm_num

/-- A half of a sum of extended reals is the sum of the halves. -/
theorem half_sum {n : ℕ} (f : Fin n → EReal) :
    ∑ j, Ideal.ofBits .f32 0x3F000000#32 * f j = Ideal.ofBits .f32 0x3F000000#32 * ∑ j, f j := by
  rw [half_eq]
  induction n with
  | zero => simp
  | succ n ih =>
    rw [Fin.sum_univ_succ, Fin.sum_univ_succ, ih (fun j => f j.succ),
      EReal.left_distrib_of_nonneg_of_ne_top (by exact_mod_cast (by norm_num : (0 : ℝ) ≤ 1 / 2)) (EReal.coe_ne_top _)]

variable (m : (ℓ : Loc Cert.FfnIdeal.nD Cert.FfnIdeal.τ Cert.FfnIdeal.sig) → Buf (Elt Ideal) ℓ)
  (m' : (ℓ : Loc Cert.FfnRefIdeal.nD Cert.FfnRefIdeal.τ Cert.FfnRefIdeal.sig) → Buf (Elt Ideal) ℓ)

/-- The kernel's halved gate summed tile by tile is the reference's half of the whole sum. -/
theorem stream_eq (c : Dev Cert.FfnIdeal.nD) (R : Fin 8192) (d : Fin 2048) :
    total m c R d = stream
      (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4))
      (⟨R.val / 2048, by omega⟩ : Fin 4) (⟨R.val % 2048, by omega⟩ : Fin 2048) d := by
  unfold total stream
  refine congrArg (fun s => xrow m c R d + s) ((Finset.sum_congr rfl fun j _ => ?_).trans (half_sum _))
  unfold share act silu
  simp only [mul_assoc]
  rfl

/-- The two results are one array. -/
theorem results_eq (c : Dev Cert.FfnIdeal.nD) :
    Cert.FfnRefIdeal.Read.val_main_v38 (F := Ideal)
      (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4))
      (m ((c.tc : Thread Cert.FfnIdeal.nD Cert.FfnIdeal.τ).loc Cert.FfnIdeal.main_arg5))
    = Cert.FfnIdeal.Value.G9 m c := by
  funext i
  obtain ⟨R, d, rfl⟩ : ∃ (R : Fin 8192) (d : Fin 2048), i = ix2 R d := ⟨i 0, i 1, at2 _ _ _ rfl rfl⟩
  refine (ref_apply _ _ _ _ _ _ R d).trans (Eq.trans ?_ (result_apply m c R d).symm)
  exact congrArg (fun x => rms x (fin m c) d) (funext fun e => (stream_eq m c R e).symm)

theorem algebraic : Cert.algebraic_FfnIdeal_FfnRefIdeal := by
  intro m g m' g' _ hagree
  refine ⟨fun c => Cert.FfnIdeal.Value.G9 m c, Cert.FfnIdeal.Value.run m g, ?_⟩
  refine (θ_run Cert.FfnRefIdeal.defs _ _).mono (fun r h c => ⟨?_, (h c).2⟩) (Cert.FfnRefIdeal.Value.run (F := Ideal) m' g')
  refine (h c).1.trans ((Cert.FfnRefIdeal.Read.val_main_v38_eq m' c).trans ?_)
  obtain ⟨a0, a1, a2, a3, a4, a5⟩ := hagree c
  rw [a0, a1, a2, a3, a4, a5]
  exact results_eq m c

end Cert.FfnV
-- ==== Proof.In.Pay.lean ====
module
public import proofs.«01_k».proof.Proof.Gen.InIdeal.Value
public import proofs.«01_k».proof.Proof.Ffn.Pay

/-! # What one step of the input projection writes

Every output block is a run of 1024 columns of the product of the normalised rows with the weights. -/

set_option maxRecDepth 16384

@[expose] public section
noncomputable section

namespace Cert.InV

open Idealize.ShloMosaic Cert.InIdeal Cert.InIdeal.Gen Cert.FfnV
open scoped BigOperators

theorem norm_apply (x : Vec Ideal S512x2048 .f32) (g : Vec Ideal S1x2048 .f32) (r : Fin 512) (k : Fin 2048) :
    k0_pay4 (F := Ideal) x g (ix2 r k) = rms (fun e => x (ix2 r e)) (fun e => g (ix2 0 e)) k := by
  unfold rms
  unfold_payloads
  pointwise

theorem pay1_apply (h : Vec Ideal S512x2048 .bf16) (w : Vec Ideal S1x2048x1024 .bf16) (r : Fin 512) (d : Fin 1024) :
    k0_pay1 (F := Ideal) h w (ix2 r d) = dot (fun k => h (ix2 r k)) (fun k => w (ix3 0 k d)) := by
  unfold dot
  unfold_payloads
  pointwise

theorem pay2_apply (h : Vec Ideal S512x2048 .bf16) (w : Vec Ideal S1x2048x1024 .bf16) (r : Fin 512) (d : Fin 1024) :
    k0_pay2 (F := Ideal) h w (ix2 r d) = dot (fun k => h (ix2 r k)) (fun k => w (ix3 0 k d)) := pay1_apply h w r d

theorem pay3_apply (h : Vec Ideal S512x2048 .bf16) (w : Vec Ideal S1x2048x1024 .bf16) (r : Fin 512) (d : Fin 1024) :
    k0_pay3 (F := Ideal) h w (ix2 r d) = dot (fun k => h (ix2 r k)) (fun k => w (ix3 0 k d)) := pay1_apply h w r d

section
variable (x : Vec Ideal S512x2048 .f32) (g : Vec Ideal S1x2048 .f32) (w : Vec Ideal S1x2048x1024 .bf16) (r : Fin 512) (d : Fin 1024)

theorem pay6_apply : k0_pay6 (F := Ideal) x g w (ix2 r d)
    = dot (rms (fun e => x (ix2 r e)) (fun e => g (ix2 0 e))) (fun k => w (ix3 0 k d)) := by
  refine (pay1_apply (k0_pay4 (F := Ideal) x g) w r d).trans ?_
  simp only [norm_apply]

theorem pay7_apply : k0_pay7 (F := Ideal) x g w (ix2 r d)
    = dot (rms (fun e => x (ix2 r e)) (fun e => g (ix2 0 e))) (fun k => w (ix3 0 k d)) := pay6_apply x g w r d

theorem pay5_apply : k0_pay5 (F := Ideal) x g w (ix2 r d)
    = dot (rms (fun e => x (ix2 r e)) (fun e => g (ix2 0 e))) (fun k => w (ix3 0 k d)) * Ideal.ofBits .f32 0x3E000000#32 := by
  rw [← pay6_apply]
  rfl
end

/-- Column `d` of the run of columns from `o` on. -/
abbrev colAt (o : ℕ) (ho : o + 1024 ≤ 4096) (d : Fin 1024) : Fin 4096 := ⟨o + d.val, by omega⟩

/-- A load of 1024 columns from column `o` on, at an index. -/
theorem ld_cols {o : ℕ} (ho : o + 1024 ≤ 4096) (x : Vec Ideal S1x2048x4096 .bf16) {inb} (k : Fin 2048) (d : Fin 1024) :
    View.ld x (Rect.unit (s := S1x2048x4096) ![0, 0, o] S1x2048x1024.size inb) (ix3 0 k d) = x (ix3 0 k (colAt o ho d)) := by
  show x _ = x _
  congr 1
  funext a
  match a with
  | ⟨0, _⟩ => rfl
  | ⟨1, _⟩ => exact Fin.ext (by show 0 + 1 * k.val = k.val; omega)
  | ⟨2, _⟩ => exact Fin.ext (by show o + 1 * d.val = o + d.val; omega)

section
variable (x0 : Vec Ideal S512x2048 .f32) (x1 : Vec Ideal S1x2048 .f32) (x2 : Vec Ideal S1x2048x4096 .bf16) (r : Fin 512) (d : Fin 1024)

/-- A column of the product, from the blocks of a step. -/
abbrev cell (o : ℕ) (ho : o + 1024 ≤ 4096) : EReal :=
  dot (rms (fun e => x0 (ix2 r e)) (fun e => x1 (ix2 0 e))) (fun k => x2 (ix3 0 k (colAt o ho d)))

theorem zeros : (![0, 0] : Fin 2 → ℕ) = fun _ => 0 := by decide

theorem rows_eq : k0_pay8 (F := Ideal) x0 x1 x2 = k0_pay4 (F := Ideal) x0 x1 := by
  unfold k0_pay8
  rw [View.ld_unit_zero zeros, View.ld_unit_zero zeros]

theorem out3_apply : out0_3 (F := Ideal) x0 x1 x2 (ix2 r d) = cell x0 x1 x2 r d 0 (by norm_num) * Ideal.ofBits .f32 0x3E000000#32 := by
  unfold out0_3 cell
  rw [View.canon_unit_zero zeros, View.ld_unit_zero zeros, View.ld_unit_zero zeros, pay5_apply]
  exact congrArg (fun w => dot _ w * _) (funext fun k => ld_cols (o := 0) (by norm_num) x2 k d)

theorem out4_apply : out0_4 (F := Ideal) x0 x1 x2 (ix2 r d) = cell x0 x1 x2 r d 1024 (by norm_num) := by
  unfold out0_4 cell
  rw [View.canon_unit_zero zeros, View.ld_unit_zero zeros, View.ld_unit_zero zeros, pay6_apply]
  exact congrArg (dot _) (funext fun k => ld_cols (o := 1024) (by norm_num) x2 k d)

theorem out7_apply : out0_7 (F := Ideal) x0 x1 x2 (ix2 r d) = cell x0 x1 x2 r d 1024 (by norm_num) := by
  unfold out0_7 cell
  rw [View.canon_unit_zero zeros, View.ld_unit_zero zeros, View.ld_unit_zero zeros, pay7_apply]
  exact congrArg (dot _) (funext fun k => ld_cols (o := 1024) (by norm_num) x2 k d)

theorem out5_apply : out0_5 (F := Ideal) x0 x1 x2 (ix2 r d) = cell x0 x1 x2 r d 2048 (by norm_num) := by
  unfold out0_5 cell
  rw [View.canon_unit_zero zeros, rows_eq, pay1_apply]
  simp only [norm_apply]
  exact congrArg (dot _) (funext fun k => ld_cols (o := 2048) (by norm_num) x2 k d)

theorem out8_apply : out0_8 (F := Ideal) x0 x1 x2 (ix2 r d) = cell x0 x1 x2 r d 2048 (by norm_num) := by
  unfold out0_8 cell
  rw [View.canon_unit_zero zeros, rows_eq, pay2_apply]
  simp only [norm_apply]
  exact congrArg (dot _) (funext fun k => ld_cols (o := 2048) (by norm_num) x2 k d)

theorem out6_apply : out0_6 (F := Ideal) x0 x1 x2 (ix2 r d) = cell x0 x1 x2 r d 3072 (by norm_num) := by
  unfold out0_6 cell
  rw [View.canon_unit_zero zeros, rows_eq, pay3_apply]
  simp only [norm_apply]
  exact congrArg (dot _) (funext fun k => ld_cols (o := 3072) (by norm_num) x2 k d)
end

end Cert.InV
-- ==== Proof.In.RefRead.lean ====
module
public import proofs.«01_k».proof.Proof.Gen.InRefIdeal.Read
public import proofs.«01_k».proof.Proof.Ffn.Pay

/-! # The projection's reference, read at an index -/

set_option maxRecDepth 16384

@[expose] public section
noncomputable section

namespace Cert.InV

open Idealize.ShloMosaic Cert.InRefIdeal Cert.InRefIdeal.Gen Cert.InRefIdeal.Read Cert.FfnV
open scoped BigOperators

variable (x0 : (⟨S4x2048x2048, .f32⟩ : BufTy).Contents (Elt Ideal)) (x1 : (⟨S1x2048, .f32⟩ : BufTy).Contents (Elt Ideal))
  (x2 : (⟨S1x2048x4096, .f32⟩ : BufTy).Contents (Elt Ideal))

theorem zero_word : (FloatOps.ofBits (F := Ideal) .f32 0x00000000#32 : EReal) = 0 := Ideal.ofBits_zero_f32

theorem ref_norm (b : Fin 4) (t k : Fin 2048) :
    val_main_v13 (F := Ideal) x0 x1 (ix3 b t k) = rms (fun e => x0 (ix3 b t e)) (fun e => x1 (ix2 0 e)) k := by
  rw [val_main_v13_apply, val_main_v10_apply, val_main_v9_apply, val_main_v8_apply, val_main_v7_apply, val_main_v5_apply,
    val_main_v3_apply, val_main_v2_apply, val_main_v4_apply, val_main_v6_apply, val_main_cst_apply, val_main_cst_0_apply,
    val_main_cst_1_apply, val_main_v12_apply, val_main_v11_apply, val_main_v0_apply, zero_word, zero_add]
  unfold rms
  refine congrArg₂ (· * ·) (congrArg (fun s => _ * Ideal.rsqrt (Ideal.div s _ + _)) (Finset.sum_congr rfl fun e _ => ?_)) ?_
  · rw [val_main_v1_apply]
    have e1 : idx_main_v2 (idx_main_v3 (idx_main_v9 (ix3 b t k))) e = ix3 b t e :=
      funext fun a => match a with | ⟨0, _⟩ => rfl | ⟨1, _⟩ => rfl | ⟨2, _⟩ => rfl
    rw [e1]; rfl
  · exact congrArg x1 (funext fun a => match a with | ⟨0, _⟩ => rfl | ⟨1, _⟩ => Fin.ext (by simp))

/-- The projection of row `R` on column `n`. -/
def proj (R : Fin 8192) (n : Fin 4096) : EReal :=
  dot (rms (fun e => x0 (ix3 (⟨R.val / 2048, by omega⟩ : Fin 4) (⟨R.val % 2048, by omega⟩ : Fin 2048) e)) (fun e => x1 (ix2 0 e)))
    (fun k => x2 (ix3 0 k n))

theorem ref_proj (b : Fin 4) (t : Fin 2048) (n : Fin 4096) : val_main_v15 (F := Ideal) x0 x1 x2 (ix3 b t n)
    = dot (rms (fun e => x0 (ix3 b t e)) (fun e => x1 (ix2 0 e))) (fun k => x2 (ix3 0 k n)) := by
  rw [val_main_v15_apply]
  refine Finset.sum_congr rfl fun k _ => congrArg₂ (· * ·) ?_ ?_
  · exact (congrArg _ (funext fun a => match a with | ⟨0, _⟩ => rfl | ⟨1, _⟩ => rfl | ⟨2, _⟩ => rfl)).trans (ref_norm x0 x1 b t k)
  · rw [val_main_v14_apply]
    refine congrArg x2 (funext fun a => match a with | ⟨0, _⟩ => rfl | ⟨1, _⟩ => Fin.ext ?_ | ⟨2, _⟩ => Fin.ext ?_)
    · show (k.val * 4096 + n.val) / 4096 % 2048 = k.val
      omega
    · show (k.val * 4096 + n.val) % 4096 = n.val
      omega

theorem ref_rows (R : Fin 8192) (n : Fin 4096) : val_main_v16 (F := Ideal) x0 x1 x2 (ix2 R n) = proj x0 x1 x2 R n := by
  rw [val_main_v16_apply]
  unfold proj
  rw [← ref_proj]
  refine congrArg _ (funext fun a => match a with | ⟨0, _⟩ => Fin.ext ?_ | ⟨1, _⟩ => Fin.ext ?_ | ⟨2, _⟩ => Fin.ext ?_)
  · show (R.val * 4096 + n.val) / 8388608 = R.val / 2048
    omega
  · show (R.val * 4096 + n.val) / 4096 % 2048 = R.val % 2048
    omega
  · show (R.val * 4096 + n.val) % 4096 = n.val
    omega

variable (R : Fin 8192) (d : Fin 1024)

theorem ref_q : val_main_v23 (F := Ideal) x0 x1 x2 (ix2 R d) = proj x0 x1 x2 R ⟨0 + d.val, by omega⟩ * Ideal.ofBits .f32 0x3E000000#32 := by
  rw [val_main_v23_apply, val_main_v19_apply, val_main_v17_apply, val_main_v18_apply, val_main_cst_2_apply, ← ref_rows]
  refine congrArg (fun s : EReal => s * Ideal.ofBits .f32 0x3E000000#32) (congrArg _ (funext fun a => ?_))
  match a with
  | ⟨0, _⟩ => rfl
  | ⟨1, _⟩ => exact Fin.ext (Nat.zero_add _).symm

theorem ref_k : val_main_v20 (F := Ideal) x0 x1 x2 (ix2 R d) = proj x0 x1 x2 R ⟨1024 + d.val, by omega⟩ := by
  rw [val_main_v20_apply, ← ref_rows]
  exact congrArg _ (funext fun a => match a with | ⟨0, _⟩ => rfl | ⟨1, _⟩ => rfl)

theorem ref_v : val_main_v21 (F := Ideal) x0 x1 x2 (ix2 R d) = proj x0 x1 x2 R ⟨2048 + d.val, by omega⟩ := by
  rw [val_main_v21_apply, ← ref_rows]
  exact congrArg _ (funext fun a => match a with | ⟨0, _⟩ => rfl | ⟨1, _⟩ => rfl)

theorem ref_u : val_main_v22 (F := Ideal) x0 x1 x2 (ix2 R d) = proj x0 x1 x2 R ⟨3072 + d.val, by omega⟩ := by
  rw [val_main_v22_apply, ← ref_rows]
  exact congrArg _ (funext fun a => match a with | ⟨0, _⟩ => rfl | ⟨1, _⟩ => rfl)

end Cert.InV
-- ==== Proof.In.Claim.lean ====
module
public import proofs.«01_k».proof.Defs
public import proofs.«01_k».proof.Proof.Ffn.Blocks
public import proofs.«01_k».proof.Proof.In.Pay
public import proofs.«01_k».proof.Proof.In.RefRead
public import proofs.«01_k».proof.Proof.Gen.InRefIdeal.Run

/-! # The input projection's claims -/

set_option maxRecDepth 16384

@[expose] public section
noncomputable section

namespace Cert.InV

open Idealize.ShloMosaic Cert.InIdeal Cert.InIdeal.Gen Idealize.ShloMosaic.TcCoe Idealize.SL.Sem Cert.FfnV
open scoped BigOperators

/-- The grid point of a row block. -/
abbrev step (i : Fin 16) : Fin cfg0.N := ⟨i.val, by show _ < grid0.N; rw [show grid0.N = 16 from by decide]; omega⟩

section
variable (m : (ℓ : Loc nD τ sig) → Buf (Elt Ideal) ℓ) (c : Dev nD)

theorem V_x : V m c main_v0 = shapeCast S8192x2048 (m ((c : Thread nD τ).loc main_arg0)) shapeCasts_S4x2048x2048_S8192x2048 := by
  dsimp only [V, hostOps0]; after_results; rfl

theorem V_g : V m c main_v2 = shapeCast S1x2048 (shapeCast S2048 (m ((c : Thread nD τ).loc main_arg1)) shapeCasts_S1x2048_S2048)
    shapeCasts_S2048_S1x2048 := by
  dsimp only [V, hostOps0]; after_results; rfl

theorem V_w : V m c main_v3 = truncf (F := Ideal) .bf16 (φ := .f32) (m ((c : Thread nD τ).loc main_arg2)) bitsLt_bf16_f32 := by
  dsimp only [V, hostOps0]; after_results

/-- The block every window reads or writes at a grid point. -/
theorem idx_facts : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem blk_x (i : Fin 16) (r : Fin 512) (e : Fin 2048) : iblk m c 0 (step i) (ix2 r e)
    = m ((c : Thread nD τ).loc main_arg0) (ix3 (⟨(rowOf i r).val / 2048, by omega⟩ : Fin 4) (⟨(rowOf i r).val % 2048, by omega⟩ : Fin 2048) e) := by
  show V m c main_v0 (((cfg0.win 0).blk (step i)).view.emb (ix2 r e)) = _
  have hi := (idx_facts (step i)).1
  rw [at2 (((cfg0.win 0).blk (step i)).view.emb (ix2 r e)) (rowOf i r) e
    (by show win0_0.index (step i) 0 * 512 + 1 * r.val = _; rw [hi]; show i.val * 512 + 1 * r.val = 512 * i.val + r.val; omega)
    (by show win0_0.index (step i) 1 * 2048 + 1 * e.val = _; rw [hi]; show 0 * 2048 + 1 * e.val = e.val; omega), V_x]
  exact merge_rows _ _ _ _

theorem blk_g (t : Fin cfg0.N) (e : Fin 2048) : iblk m c 1 t (ix2 0 e) = m ((c : Thread nD τ).loc main_arg1) (ix2 0 e) := by
  show V m c main_v2 (((cfg0.win 1).blk t).view.emb (ix2 0 e)) = _
  have hi := (idx_facts t).2.1
  rw [at2 (((cfg0.win 1).blk t).view.emb (ix2 0 e)) 0 e
    (by show win0_1.index t 0 * 1 + 1 * 0 = _; rw [hi]; rfl)
    (by show win0_1.index t 1 * 2048 + 1 * e.val = _; rw [hi]; show 0 * 2048 + 1 * e.val = e.val; omega), V_g, shapeCast_shapeCast]

theorem blk_w (t : Fin cfg0.N) (k : Fin 2048) (n : Fin 4096) :
    iblk m c 2 t (ix3 0 k n) = m ((c : Thread nD τ).loc main_arg2) (ix3 0 k n) := by
  show V m c main_v3 (((cfg0.win 2).blk t).view.emb (ix3 0 k n)) = _
  have hi := (idx_facts t).2.2.1
  rw [at3 (((cfg0.win 2).blk t).view.emb (ix3 0 k n)) 0 k n
    (by show win0_2.index t 0 * 1 + 1 * 0 = _; rw [hi]; rfl)
    (by show win0_2.index t 1 * 2048 + 1 * k.val = _; rw [hi]; show 0 * 2048 + 1 * k.val = k.val; omega)
    (by show win0_2.index t 2 * 4096 + 1 * n.val = _; rw [hi]; show 0 * 4096 + 1 * n.val = n.val; omega), V_w, ValueIdx.truncf_apply]

/-- The projection over the launch's arguments. -/
abbrev projOf : Fin 8192 → Fin 4096 → EReal :=
  proj (m ((c : Thread nD τ).loc main_arg0)) (m ((c : Thread nD τ).loc main_arg1)) (m ((c : Thread nD τ).loc main_arg2))

/-- A step's cell is the projection's. -/
theorem cell_eq (i : Fin 16) (r : Fin 512) (d : Fin 1024) (o : ℕ) (ho : o + 1024 ≤ 4096) :
    cell (iblk m c 0 (step i)) (iblk m c 1 (step i)) (iblk m c 2 (step i)) r d o ho = projOf m c (rowOf i r) ⟨o + d.val, by omega⟩ := by
  unfold cell projOf proj
  simp only [blk_x, blk_g, blk_w]

/-- Where a cell of a step's output block lies in the array. -/
theorem place {i : Fin 16} {r : Fin 512} {d : Fin 1024} (y : S8192x1024.Idx) (ix : Fin 2 → ℕ) (hi : ix = ![i.val, 0])
    (h0 : (y 0).val = ix 0 * 512 + 1 * r.val) (h1 : (y 1).val = ix 1 * 1024 + 1 * d.val) : y = ix2 (rowOf i r) d :=
  at2 y _ _ (h0.trans (by rw [hi]; show i.val * 512 + 1 * r.val = 512 * i.val + r.val; omega))
    (h1.trans (by rw [hi]; show 0 * 1024 + 1 * d.val = d.val; omega))

theorem flush_all : ∀ t : Fin cfg0.N, (cfg0.win 3).flush t = true ∧ (cfg0.win 4).flush t = true ∧ (cfg0.win 5).flush t = true
    ∧ (cfg0.win 6).flush t = true ∧ (cfg0.win 7).flush t = true ∧ (cfg0.win 8).flush t = true :=
  (by decide +kernel : ∀ t : Fin grid0.N, _)

variable (i : Fin 16) (r : Fin 512) (d : Fin 1024)

theorem q_cell : (dats m 0 c).arrAt 3 cfg0.N (ix2 (rowOf i r) d)
    = projOf m c (rowOf i r) ⟨0 + d.val, by omega⟩ * Ideal.ofBits .f32 0x3E000000#32 := by
  have hb := congrFun (Value.blocks3 m c (step i) (flush_all _).1) (ix2 r d)
  rw [Value.flushed3] at hb
  rw [← place (i := i) (r := r) (d := d) (((cfg0.win 3).blk (step i)).view.emb (ix2 r d)) _ (idx_facts (step i)).2.2.2.1 rfl rfl, ← cell_eq m c i r d _ (by norm_num)]
  exact hb.trans (out3_apply _ _ _ r d)

theorem k_cell : (dats m 0 c).arrAt 4 cfg0.N (ix2 (rowOf i r) d) = projOf m c (rowOf i r) ⟨1024 + d.val, by omega⟩ := by
  have hb := congrFun (Value.blocks4 m c (step i) (flush_all _).2.1) (ix2 r d)
  rw [Value.flushed4] at hb
  rw [← place (i := i) (r := r) (d := d) (((cfg0.win 4).blk (step i)).view.emb (ix2 r d)) _ (idx_facts (step i)).2.2.2.2.1 rfl rfl, ← cell_eq m c i r d _ (by norm_num)]
  exact hb.trans (out4_apply _ _ _ r d)

theorem v_cell : (dats m 0 c).arrAt 5 cfg0.N (ix2 (rowOf i r) d) = projOf m c (rowOf i r) ⟨2048 + d.val, by omega⟩ := by
  have hb := congrFun (Value.blocks5 m c (step i) (flush_all _).2.2.1) (ix2 r d)
  rw [Value.flushed5] at hb
  rw [← place (i := i) (r := r) (d := d) (((cfg0.win 5).blk (step i)).view.emb (ix2 r d)) _ (idx_facts (step i)).2.2.2.2.2.1 rfl rfl, ← cell_eq m c i r d _ (by norm_num)]
  exact hb.trans (out5_apply _ _ _ r d)

theorem u_cell : (dats m 0 c).arrAt 6 cfg0.N (ix2 (rowOf i r) d) = projOf m c (rowOf i r) ⟨3072 + d.val, by omega⟩ := by
  have hb := congrFun (Value.blocks6 m c (step i) (flush_all _).2.2.2.1) (ix2 r d)
  rw [Value.flushed6] at hb
  rw [← place (i := i) (r := r) (d := d) (((cfg0.win 6).blk (step i)).view.emb (ix2 r d)) _ (idx_facts (step i)).2.2.2.2.2.2.1 rfl rfl, ← cell_eq m c i r d _ (by norm_num)]
  exact hb.trans (out6_apply _ _ _ r d)

theorem kb_cell : (dats m 0 c).arrAt 7 cfg0.N (ix2 (rowOf i r) d) = projOf m c (rowOf i r) ⟨1024 + d.val, by omega⟩ := by
  have hb := congrFun (Value.blocks7 m c (step i) (flush_all _).2.2.2.2.1) (ix2 r d)
  rw [Value.flushed7] at hb
  rw [← place (i := i) (r := r) (d := d) (((cfg0.win 7).blk (step i)).view.emb (ix2 r d)) _ (idx_facts (step i)).2.2.2.2.2.2.2.1 rfl rfl, ← cell_eq m c i r d _ (by norm_num)]
  exact hb.trans (out7_apply _ _ _ r d)

theorem vb_cell : (dats m 0 c).arrAt 8 cfg0.N (ix2 (rowOf i r) d) = projOf m c (rowOf i r) ⟨2048 + d.val, by omega⟩ := by
  have hb := congrFun (Value.blocks8 m c (step i) (flush_all _).2.2.2.2.2) (ix2 r d)
  rw [Value.flushed8] at hb
  rw [← place (i := i) (r := r) (d := d) (((cfg0.win 8).blk (step i)).view.emb (ix2 r d)) _ (idx_facts (step i)).2.2.2.2.2.2.2.2 rfl rfl, ← cell_eq m c i r d _ (by norm_num)]
  exact hb.trans (out8_apply _ _ _ r d)

/-- Two arrays of rows of 1024 that agree on every cell of every row block are one. -/
theorem rows_ext {f g : S8192x1024.Idx → EReal} (h : ∀ (i : Fin 16) (r : Fin 512) (d : Fin 1024), f (ix2 (rowOf i r) d) = g (ix2 (rowOf i r) d)) :
    f = g := by
  funext y
  have h0 : (y 0).val < 8192 := (y 0).isLt
  have hy : y = ix2 (rowOf ⟨(y 0).val / 512, by omega⟩ ⟨(y 0).val % 512, by omega⟩) (y 1) :=
    at2 y _ _ (by show (y 0).val = 512 * ((y 0).val / 512) + (y 0).val % 512; omega) rfl
  rw [hy]
  exact h _ _ _
end

/-- The reference runs, leaves its arguments and ends with every counter at zero. -/
theorem frame_ref : Cert.quiescent_InRefIdeal := fun m ρ _ =>
  (θ_run Cert.InRefIdeal.defs _ _).mono (fun r h => ⟨fun c => (h c).2.2.2.2.2.2, Idealize.ShloMosaic.sem_eq_zero_of_no_sems (by decide) r.2⟩)
    (Cert.InRefIdeal.Value.run (F := Ideal) m ρ)

theorem algebraic : Cert.algebraic_InIdeal_InRefIdeal := by
  intro m g m' g' _ hagree
  refine ⟨fun c => (dats m 0 c).arrAt 3 cfg0.N, fun c => (dats m 0 c).arrAt 4 cfg0.N, fun c => (dats m 0 c).arrAt 5 cfg0.N,
    fun c => (dats m 0 c).arrAt 6 cfg0.N, fun c => (dats m 0 c).arrAt 7 cfg0.N, fun c => (dats m 0 c).arrAt 8 cfg0.N,
    Cert.InIdeal.Value.run_blocks m g, ?_⟩
  refine (θ_run Cert.InRefIdeal.defs _ _).mono (fun r h c => ?_) (Cert.InRefIdeal.Value.run (F := Ideal) m' g')
  obtain ⟨a0, a1, a2⟩ := hagree c
  obtain ⟨hq, hk, hv, hu, hkb, hvb, hargs⟩ := h c
  refine ⟨hq.trans ?_, hk.trans ?_, hv.trans ?_, hu.trans ?_, hkb.trans ?_, hvb.trans ?_, hargs⟩
  · refine (Cert.InRefIdeal.Read.val_main_v23_eq _ _ _).symm.trans (rows_ext fun i r d => ?_)
    rw [a0, a1, a2]
    exact (ref_q _ _ _ _ d).trans (q_cell m c i r d).symm
  · refine (Cert.InRefIdeal.Read.val_main_v20_eq _ _ _).symm.trans (rows_ext fun i r d => ?_)
    rw [a0, a1, a2]
    exact (ref_k _ _ _ _ d).trans (k_cell m c i r d).symm
  · refine (Cert.InRefIdeal.Read.val_main_v21_eq _ _ _).symm.trans (rows_ext fun i r d => ?_)
    rw [a0, a1, a2]
    exact (ref_v _ _ _ _ d).trans (v_cell m c i r d).symm
  · refine (Cert.InRefIdeal.Read.val_main_v22_eq _ _ _).symm.trans (rows_ext fun i r d => ?_)
    rw [a0, a1, a2]
    exact (ref_u _ _ _ _ d).trans (u_cell m c i r d).symm
  · refine (Cert.InRefIdeal.Read.val_main_v24_eq _ _ _).symm.trans (rows_ext fun i r d => ?_)
    rw [a0, a1, a2]
    exact (ref_k _ _ _ _ d).trans (kb_cell m c i r d).symm
  · refine (Cert.InRefIdeal.Read.val_main_v25_eq _ _ _).symm.trans (rows_ext fun i r d => ?_)
    rw [a0, a1, a2]
    exact (ref_v _ _ _ _ d).trans (vb_cell m c i r d).symm

end Cert.InV
-- ==== Proof.Out.Running.lean ====
module
public import proofs.«01_k».proof.Proof.Gen.OutRefIdeal.Read
public import Idealize.ShloMosaic.PureOps.Ideal
public import Idealize.ShloMosaic.PureOps.Ideal.Laws
public import proofs.«01_k».proof.Proof.Attn.Tile

/-! # The reference's running sums, and a window of a running sum

The reference sums all tokens up to each one and subtracts two such sums for a window. Over finite tokens the difference is
the window's own sum. -/

set_option maxRecDepth 16384

@[expose] public section
noncomputable section

namespace Cert.OutV

open Idealize.ShloMosaic Cert.OutRefIdeal Cert.OutRefIdeal.Gen Cert.OutRefIdeal.Read
open scoped BigOperators

/-- A product of two lists of numbers, summed. -/
def dotn {n : ℕ} (h w : Fin n → EReal) : EReal := ∑ k, h k * w k

theorem fold_add {n : ℕ} (f : Fin n → EReal) (l : List (Fin n)) (z : EReal) :
    l.foldl (fun r k => r + f k) z = z + (l.map f).sum := by
  induction l generalizing z with
  | nil => exact (add_zero z).symm
  | cons a l ih => rw [List.foldl_cons, ih, List.map_cons, List.sum_cons, add_assoc]

/-- One channel of one batch of the padded tokens, zero past the end. -/
def line (x : S4x2063x1024.Idx → EReal) (b : Fin 4) (d : Fin 1024) (i : ℕ) : EReal :=
  if hi : i < 2063 then x (ix3 b ⟨i, hi⟩ d) else 0

/-- A window position along an axis. -/
def winPos (n : Fin (⟨3, ![1, 2063, 1]⟩ : Shape).numel) (a : Fin 3) : ℕ := (((⟨3, ![1, 2063, 1]⟩ : Shape).rowMajor.symm n) a).val

/-- The window's only moving position. -/
theorem window_pos (n : Fin (⟨3, ![1, 2063, 1]⟩ : Shape).numel) : winPos n 0 = 0 ∧ winPos n 1 = n.val ∧ winPos n 2 = 0 := by
  unfold winPos
  have h := Shape.rowMajor_val_three ((⟨3, ![1, 2063, 1]⟩ : Shape).rowMajor.symm n)
  rw [Equiv.apply_symm_apply] at h
  have h0 : (((⟨3, ![1, 2063, 1]⟩ : Shape).rowMajor.symm n) 0).val < 1 := (((⟨3, ![1, 2063, 1]⟩ : Shape).rowMajor.symm n) 0).isLt
  have h2 : (((⟨3, ![1, 2063, 1]⟩ : Shape).rowMajor.symm n) 2).val < 1 := (((⟨3, ![1, 2063, 1]⟩ : Shape).rowMajor.symm n) 2).isLt
  change n.val = ((((⟨3, ![1, 2063, 1]⟩ : Shape).rowMajor.symm n) 0).val * 2063 + (((⟨3, ![1, 2063, 1]⟩ : Shape).rowMajor.symm n) 1).val) * 1
    + (((⟨3, ![1, 2063, 1]⟩ : Shape).rowMajor.symm n) 2).val at h
  omega

theorem sum_tail (g : ℕ → EReal) (j : ℕ) (hj : j < 2063) :
    (∑ n ∈ Finset.range 2063, if 2062 ≤ j + n then g (j + n - 2062) else 0) = ∑ i ∈ Finset.range (j + 1), g i := by
  have e : (2063 : ℕ) = (2062 - j) + (j + 1) := by omega
  rw [e, Finset.sum_range_add, Finset.sum_eq_zero (fun n hn => if_neg (by have := Finset.mem_range.1 hn; omega)), zero_add]
  refine Finset.sum_congr rfl fun i _ => ?_
  rw [if_pos (by omega)]
  exact congrArg g (by omega)

theorem running_sum (x : S4x2063x1024.Idx → EReal) (init : S_.Idx → EReal) (h) (hu) (h0 : init (Shape.Idx.first hu) = 0)
    (b : Fin 4) (j : Fin 2063) (d : Fin 1024) :
    Host.reduceWindowAdd (F := Ideal) (φ := .f32) (s := S4x2063x1024) (t := S4x2063x1024) (u := S_) ![1, 2063, 1] ![1, 1, 1] ![0, 2062, 0]
      ![0, 0, 0] x init h hu (ix3 b j d) = ∑ i ∈ Finset.range (j.val + 1), line x b d i := by
  unfold Host.reduceWindowAdd
  show Ideal.hostReduceWindowAdd _ _ _ _ h x (init (Shape.Idx.first hu)) _ = _
  rw [h0]
  unfold Ideal.hostReduceWindowAdd Host.reduceWindow
  refine (fold_add _ _ _).trans ?_
  rw [zero_add, ← Fin.sum_univ_def, ← sum_tail (line x b d) j.val j.isLt]
  refine (Finset.sum_congr rfl fun n _ => ?_).trans
    (Fin.sum_univ_eq_sum_range (fun n => if 2062 ≤ j.val + n then line x b d (j.val + n - 2062) else 0) 2063)
  have n0 : winPos n 0 = 0 := (window_pos n).1
  have n1 : winPos n 1 = n.val := (window_pos n).2.1
  have n2 : winPos n 2 = 0 := (window_pos n).2.2
  have hn : n.val < 2063 := n.isLt
  have hb : b.val < 4 := b.isLt
  have hd : d.val < 1024 := d.isLt
  by_cases hc : 2062 ≤ j.val + n.val
  · rw [if_pos hc]
    have e : line x b d (j.val + n.val - 2062) = x (ix3 b ⟨j.val + n.val - 2062, by omega⟩ d) := dif_pos (by omega)
    rw [e]
    refine (dif_pos ?_).trans (congrArg x (funext fun a => Fin.ext ?_))
    · intro a
      match a with
      | ⟨0, _⟩ => exact ⟨Nat.zero_le _, by show b.val * 1 + winPos n 0 - 0 < 4; have := n0; omega⟩
      | ⟨1, _⟩ => exact ⟨by show 2062 ≤ j.val * 1 + winPos n 1; have := n1; omega, by show j.val * 1 + winPos n 1 - 2062 < 2063; have := n1; omega⟩
      | ⟨2, _⟩ => exact ⟨Nat.zero_le _, by show d.val * 1 + winPos n 2 - 0 < 1024; have := n2; omega⟩
    · match a with
      | ⟨0, _⟩ => show b.val * 1 + winPos n 0 - 0 = b.val; have := n0; omega
      | ⟨1, _⟩ => show j.val * 1 + winPos n 1 - 2062 = j.val + n.val - 2062; have := n1; omega
      | ⟨2, _⟩ => show d.val * 1 + winPos n 2 - 0 = d.val; have := n2; omega
  · rw [if_neg hc]
    refine dif_neg fun H => hc ?_
    have := (H 1).1
    change 2062 ≤ j.val * 1 + winPos n 1 at this
    have := n1
    omega

variable (x2 : (⟨S4x2048x1024, .f32⟩ : BufTy).Contents (Elt Ideal))

/-- The padded tokens: fifteen zeros before the first. -/
theorem padded (b : Fin 4) (i : ℕ) (hi : i < 2063) (d : Fin 1024) : val_main_v3 (F := Ideal) x2 (ix3 b ⟨i, hi⟩ d)
    = if h : i < 15 then 0 else x2 (ix3 b ⟨i - 15, by omega⟩ d) := by
  unfold val_main_v3
  by_cases h : i < 15
  · rw [dif_pos h]
    refine (concatenate_pair_apply_left (t := S4x2063x1024) (s₁ := S4x15x1024) (s₂ := S4x2048x1024) (1 : Fin 3) _ _ _ _ rfl (ix3 b (⟨i, h⟩ : Fin 15) d) (fun a => ?_)).trans ?_
    · match a with | ⟨0, _⟩ => rfl | ⟨1, _⟩ => rfl | ⟨2, _⟩ => rfl
    · rw [val_main_v0_apply, val_main_cst_apply]; exact Ideal.ofBits_zero_f32
  · rw [dif_neg h]
    refine concatenate_pair_apply_right (t := S4x2063x1024) (s₁ := S4x15x1024) (s₂ := S4x2048x1024) (1 : Fin 3) _ _ _ _ rfl rfl (ix3 b (⟨i - 15, by omega⟩ : Fin 2048) d) (fun a ha => ?_) ?_
    · match a with | ⟨0, _⟩ => rfl | ⟨1, _⟩ => exact absurd rfl ha | ⟨2, _⟩ => rfl
    · show i - 15 + 15 = i; omega

/-- The padded tokens by their place before or after the first token. -/
def tok (b : Fin 4) (d : Fin 1024) (i : ℕ) : EReal :=
  if h : i < 15 then 0 else if h' : i < 2063 then x2 (ix3 b ⟨i - 15, by omega⟩ d) else 0

theorem line_tok (b : Fin 4) (d : Fin 1024) : line (val_main_v3 (F := Ideal) x2) b d = tok x2 b d := by
  funext i
  unfold line tok
  by_cases hi : i < 2063
  · rw [dif_pos hi, padded]
    by_cases h : i < 15
    · rw [dif_pos h, dif_pos h]
    · rw [dif_neg h, dif_neg h, dif_pos hi]
  · rw [dif_neg hi, dif_neg (by omega), dif_neg hi]

/-- The running sums, shifted by one: the sum of the first `i` padded tokens. -/
theorem prefix_sum (b : Fin 4) (i : ℕ) (hi : i < 2064) (d : Fin 1024) : val_main_v6 (F := Ideal) x2 (ix3 b ⟨i, hi⟩ d)
    = ∑ k ∈ Finset.range i, tok x2 b d k := by
  unfold val_main_v6
  by_cases h : i < 1
  · obtain rfl : i = 0 := by omega
    refine (concatenate_pair_apply_left (t := S4x2064x1024) (s₁ := S4x1x1024) (s₂ := S4x2063x1024) (1 : Fin 3) _ _ _ _ rfl (ix3 b (⟨0, h⟩ : Fin 1) d) (fun a => ?_)).trans ?_
    · match a with | ⟨0, _⟩ => rfl | ⟨1, _⟩ => rfl | ⟨2, _⟩ => rfl
    · rw [val_main_v4_apply, val_main_cst_0_apply, Finset.sum_range_zero]; exact Ideal.ofBits_zero_f32
  · refine (concatenate_pair_apply_right (t := S4x2064x1024) (s₁ := S4x1x1024) (s₂ := S4x2063x1024) (1 : Fin 3) _ _ _ _ rfl rfl (ix3 b (⟨i - 1, by omega⟩ : Fin 2063) d) (fun a ha => ?_) ?_).trans ?_
    · match a with | ⟨0, _⟩ => rfl | ⟨1, _⟩ => exact absurd rfl ha | ⟨2, _⟩ => rfl
    · show i - 1 + 1 = i; omega
    · unfold val_main_v5
      refine (running_sum _ _ _ _ ?_ _ _ _).trans ?_
      · rw [val_main_call0_call0_v0_apply, val_main_call0_call0_cst_apply]; exact Ideal.ofBits_zero_f32
      · rw [line_tok]
        exact congrArg (fun n => ∑ k ∈ Finset.range n, tok x2 b d k) (by show i - 1 + 1 = i; omega)

end Cert.OutV
-- ==== Proof.Out.RefRead.lean ====
module
public import proofs.«01_k».proof.Proof.Out.Running

/-! # The pool's reference, read at an index -/

set_option maxRecDepth 16384

@[expose] public section
noncomputable section

namespace Cert.OutV

open Idealize.ShloMosaic Cert.OutRefIdeal Cert.OutRefIdeal.Gen Cert.OutRefIdeal.Read
open scoped BigOperators

/-- How many tokens a window of `w` holds at token `t`, as the integer operations count them. -/
def cnt (w t : ℕ) : EReal :=
  FloatOps.sitofp (F := Ideal) .f32 (IntOp.minsi (BitVec.ofNat 32 w) (IntOp.addi (IntOp.addi 0#32 (BitVec.ofNat 32 t)) 1#32))

theorem count_word : ∀ t : Fin 2048, (IntOp.minsi 2#32 (IntOp.addi (IntOp.addi 0#32 (BitVec.ofNat 32 t.val)) 1#32)).toInt ≠ 0
    ∧ (IntOp.minsi 4#32 (IntOp.addi (IntOp.addi 0#32 (BitVec.ofNat 32 t.val)) 1#32)).toInt ≠ 0
    ∧ (IntOp.minsi 8#32 (IntOp.addi (IntOp.addi 0#32 (BitVec.ofNat 32 t.val)) 1#32)).toInt ≠ 0
    ∧ (IntOp.minsi 16#32 (IntOp.addi (IntOp.addi 0#32 (BitVec.ofNat 32 t.val)) 1#32)).toInt ≠ 0 := by decide +kernel

/-- The window of a channel group. -/
abbrev wnd (g : Fin 4) : ℕ := ![2, 4, 8, 16] g

theorem word_ne {v : BitVec 32} (h : v.toInt ≠ 0) : FloatOps.sitofp (F := Ideal) .f32 v ≠ (0 : EReal) := by
  show ((v.toInt : ℝ) : EReal) ≠ 0
  exact_mod_cast h

theorem cnt_ne (g : Fin 4) (t : Fin 2048) : cnt (wnd g) t.val ≠ 0 :=
  match g with
  | ⟨0, _⟩ => word_ne (count_word t).1
  | ⟨1, _⟩ => word_ne (count_word t).2.1
  | ⟨2, _⟩ => word_ne (count_word t).2.2.1
  | ⟨3, _⟩ => word_ne (count_word t).2.2.2

section
variable (x2 : (⟨S4x2048x1024, .f32⟩ : BufTy).Contents (Elt Ideal))

/-- A token's window mean less the token. -/
def dev (w : ℕ) (b : Fin 4) (t : Fin 2048) (d : Fin 1024) : EReal :=
  (∑ s ∈ Finset.range w, tok x2 b d (15 + t.val - s)) * Ideal.div 1 (cnt w t.val) - x2 (ix3 b t d)

theorem div_eq {p c : EReal} (h : c ≠ 0) : Ideal.div p c = p * Ideal.div 1 c := by
  unfold Ideal.div
  rw [if_neg h, if_neg h, one_mul]

/-- Every token is a real number. -/
def Finite : Prop := ∀ y, x2 y ≠ ⊤ ∧ x2 y ≠ ⊥

variable {x2}

theorem tok_real (hf : Finite x2) (b : Fin 4) (d : Fin 1024) (i : ℕ) : tok x2 b d i = (((tok x2 b d i).toReal : ℝ) : EReal) := by
  refine (EReal.coe_toReal ?_ ?_).symm
  all_goals
    unfold tok
    split
    · simp
    · split
      · first | exact (hf _).1 | exact (hf _).2
      · simp

theorem sum_real (r : ℕ → ℝ) (n : ℕ) : (∑ k ∈ Finset.range n, ((r k : ℝ) : EReal)) = ((∑ k ∈ Finset.range n, r k : ℝ) : EReal) := by
  induction n with
  | zero => simp
  | succ n ih => rw [Finset.sum_range_succ, Finset.sum_range_succ, ih, EReal.coe_add]

/-- The difference of two running sums is the sum over the window between them. -/
theorem window_diff (hf : Finite x2) (b : Fin 4) (d : Fin 1024) (a w : ℕ) :
    (∑ k ∈ Finset.range (a + w), tok x2 b d k) - (∑ k ∈ Finset.range a, tok x2 b d k)
      = ∑ s ∈ Finset.range w, tok x2 b d (a + w - 1 - s) := by
  obtain ⟨f, e⟩ : ∃ f : ℕ → ℝ, tok x2 b d = fun i => ((f i : ℝ) : EReal) := ⟨_, funext (tok_real hf b d)⟩
  rw [e, sum_real, sum_real, sum_real (fun s => f (a + w - 1 - s)), ← EReal.coe_sub, Finset.sum_range_add,
    add_sub_cancel_left, ← Finset.sum_range_reflect]
  refine congrArg _ (Finset.sum_congr rfl fun s hs => ?_)
  have := Finset.mem_range.1 hs
  exact congrArg f (by omega)

/-- What a group's operations leave at a token. -/
theorem group_dev (hf : Finite x2) (g : Fin 4) (b : Fin 4) (t : Fin 2048) (d : Fin 1024) (a : ℕ) (ha : a + wnd g = 16 + t.val) {p q n u : EReal}
    (hp : p = ∑ k ∈ Finset.range (16 + t.val), tok x2 b d k) (hq : q = ∑ k ∈ Finset.range a, tok x2 b d k) (hn : n = cnt (wnd g) t.val)
    (hu : u = x2 (ix3 b t d)) : Ideal.div (p - q) n - u = dev x2 (wnd g) b t d := by
  unfold dev
  rw [hn, hu, div_eq (cnt_ne g t), hp, hq, ← ha, window_diff hf]
  refine congrArg (fun s : EReal => s * _ - _) (Finset.sum_congr rfl fun s _ => congrArg _ ?_)
  omega

theorem sums_at (j : S4x2064x1024.Idx) (b : Fin 4) (i : ℕ) (hi : i < 2064) (d : Fin 1024) (h0 : (j 0).val = b.val) (h1 : (j 1).val = i)
    (h2 : (j 2).val = d.val) : val_main_v6 (F := Ideal) x2 j = ∑ k ∈ Finset.range i, tok x2 b d k :=
  (congrArg _ (funext fun a => match a with | ⟨0, _⟩ => Fin.ext h0 | ⟨1, _⟩ => Fin.ext h1 | ⟨2, _⟩ => Fin.ext h2)).trans
    (prefix_sum x2 b i hi d)

theorem token_at (j : S4x2063x1024.Idx) (b : Fin 4) (t : Fin 2048) (d : Fin 1024) (h0 : (j 0).val = b.val) (h1 : (j 1).val = 15 + t.val)
    (h2 : (j 2).val = d.val) : val_main_v3 (F := Ideal) x2 j = x2 (ix3 b t d) := by
  rw [show j = ix3 b (⟨15 + t.val, by omega⟩ : Fin 2063) d from
    funext fun a => match a with | ⟨0, _⟩ => Fin.ext h0 | ⟨1, _⟩ => Fin.ext h1 | ⟨2, _⟩ => Fin.ext h2, padded, dif_neg (by omega)]
  exact congrArg x2 (funext fun a => match a with
    | ⟨0, _⟩ => rfl | ⟨1, _⟩ => Fin.ext (by show 15 + t.val - 15 = t.val; omega) | ⟨2, _⟩ => rfl)

/-- A channel by its group and its place there. -/
abbrev chan (g : Fin 4) (k : Fin 256) : Fin 1024 := ⟨256 * g.val + k.val, by omega⟩

variable (hf : Finite x2) (b : Fin 4) (t : Fin 2048) (k : Fin 256)
include hf

theorem ref_g0 : val_main_v23 (F := Ideal) x2 (ix3 b t k) = dev x2 (wnd 0) b t (chan 0 k) := by
  rw [val_main_v23_apply, val_main_v21_apply, val_main_v13_apply, val_main_v11_apply, val_main_v12_apply, val_main_v22_apply, val_main_v7_apply,
    val_main_v20_apply, val_main_v19_apply, val_main_v18_apply, val_main_v17_apply, val_main_v16_apply, val_main_c_2_apply, val_main_v15_apply,
    val_main_v10_apply, val_main_v9_apply, val_main_c_apply, val_main_v8_apply, val_main_v14_apply, val_main_c_1_apply]
  have ht := t.isLt
  exact group_dev hf 0 b t (chan 0 k) (14 + t.val) (by show 14 + t.val + 2 = _; omega)
    (sums_at _ b _ (by omega) _ rfl rfl (by show k.val = 256 * 0 + k.val; omega))
    (sums_at _ b _ (by omega) _ rfl rfl (by show k.val = 256 * 0 + k.val; omega)) rfl
    (token_at _ b t _ rfl rfl (by show k.val = 256 * 0 + k.val; omega))

theorem ref_g1 : val_main_v36 (F := Ideal) x2 (ix3 b t k) = dev x2 (wnd 1) b t (chan 1 k) := by
  rw [val_main_v36_apply, val_main_v34_apply, val_main_v26_apply, val_main_v24_apply, val_main_v25_apply, val_main_v35_apply, val_main_v7_apply,
    val_main_v33_apply, val_main_v32_apply, val_main_v31_apply, val_main_v30_apply, val_main_v29_apply, val_main_c_4_apply, val_main_v28_apply,
    val_main_v10_apply, val_main_v9_apply, val_main_c_apply, val_main_v8_apply, val_main_v27_apply, val_main_c_3_apply]
  have ht := t.isLt
  exact group_dev hf 1 b t (chan 1 k) (12 + t.val) (by show 12 + t.val + 4 = _; omega)
    (sums_at _ b _ (by omega) _ rfl rfl (by show 256 + k.val = 256 * 1 + k.val; omega))
    (sums_at _ b _ (by omega) _ rfl rfl (by show 256 + k.val = 256 * 1 + k.val; omega)) rfl
    (token_at _ b t _ rfl rfl (by show 256 + k.val = 256 * 1 + k.val; omega))

theorem ref_g2 : val_main_v49 (F := Ideal) x2 (ix3 b t k) = dev x2 (wnd 2) b t (chan 2 k) := by
  rw [val_main_v49_apply, val_main_v47_apply, val_main_v39_apply, val_main_v37_apply, val_main_v38_apply, val_main_v48_apply, val_main_v7_apply,
    val_main_v46_apply, val_main_v45_apply, val_main_v44_apply, val_main_v43_apply, val_main_v42_apply, val_main_c_6_apply, val_main_v41_apply,
    val_main_v10_apply, val_main_v9_apply, val_main_c_apply, val_main_v8_apply, val_main_v40_apply, val_main_c_5_apply]
  have ht := t.isLt
  exact group_dev hf 2 b t (chan 2 k) (8 + t.val) (by show 8 + t.val + 8 = _; omega)
    (sums_at _ b _ (by omega) _ rfl rfl (by show 512 + k.val = 256 * 2 + k.val; omega))
    (sums_at _ b _ (by omega) _ rfl rfl (by show 512 + k.val = 256 * 2 + k.val; omega)) rfl
    (token_at _ b t _ rfl rfl (by show 512 + k.val = 256 * 2 + k.val; omega))

theorem ref_g3 : val_main_v62 (F := Ideal) x2 (ix3 b t k) = dev x2 (wnd 3) b t (chan 3 k) := by
  rw [val_main_v62_apply, val_main_v60_apply, val_main_v52_apply, val_main_v50_apply, val_main_v51_apply, val_main_v61_apply, val_main_v7_apply,
    val_main_v59_apply, val_main_v58_apply, val_main_v57_apply, val_main_v56_apply, val_main_v55_apply, val_main_c_8_apply, val_main_v54_apply,
    val_main_v10_apply, val_main_v9_apply, val_main_c_apply, val_main_v8_apply, val_main_v53_apply, val_main_c_7_apply]
  have ht := t.isLt
  exact group_dev hf 3 b t (chan 3 k) t.val (by show t.val + 16 = _; omega)
    (sums_at _ b _ (by omega) _ rfl rfl (by show 768 + k.val = 256 * 3 + k.val; omega))
    (sums_at _ b _ (by omega) _ rfl rfl (by show 768 + k.val = 256 * 3 + k.val; omega)) rfl
    (token_at _ b t _ rfl rfl (by show 768 + k.val = 256 * 3 + k.val; omega))

theorem ref_groups (g : Fin 4) : val_main_v67 (F := Ideal) x2 (ix4 b t g k) = dev x2 (wnd g) b t (chan g k) := by
  unfold val_main_v67
  match g with
  | ⟨0, _⟩ =>
    refine (concatenate_apply_piece (t := S4x2048x4x256) (2 : Fin 4) _ _ _ 0 (by show 0 < 4; norm_num) S4x2048x1x256 _ rfl rfl 0 rfl (ix4 b t 0 k) (fun a ha => ?_) rfl).trans ?_
    · match a with | ⟨0, _⟩ => rfl | ⟨1, _⟩ => rfl | ⟨2, _⟩ => exact absurd rfl ha | ⟨3, _⟩ => rfl
    · rw [val_main_v63_apply]
      exact (congrArg _ (funext fun a => match a with | ⟨0, _⟩ => rfl | ⟨1, _⟩ => rfl | ⟨2, _⟩ => rfl)).trans (ref_g0 hf b t k)
  | ⟨1, _⟩ =>
    refine (concatenate_apply_piece (t := S4x2048x4x256) (2 : Fin 4) _ _ _ 1 (by show 1 < 4; norm_num) S4x2048x1x256 _ rfl rfl 1 rfl (ix4 b t 0 k) (fun a ha => ?_) rfl).trans ?_
    · match a with | ⟨0, _⟩ => rfl | ⟨1, _⟩ => rfl | ⟨2, _⟩ => exact absurd rfl ha | ⟨3, _⟩ => rfl
    · rw [val_main_v64_apply]
      exact (congrArg _ (funext fun a => match a with | ⟨0, _⟩ => rfl | ⟨1, _⟩ => rfl | ⟨2, _⟩ => rfl)).trans (ref_g1 hf b t k)
  | ⟨2, _⟩ =>
    refine (concatenate_apply_piece (t := S4x2048x4x256) (2 : Fin 4) _ _ _ 2 (by show 2 < 4; norm_num) S4x2048x1x256 _ rfl rfl 2 rfl (ix4 b t 0 k) (fun a ha => ?_) rfl).trans ?_
    · match a with | ⟨0, _⟩ => rfl | ⟨1, _⟩ => rfl | ⟨2, _⟩ => exact absurd rfl ha | ⟨3, _⟩ => rfl
    · rw [val_main_v65_apply]
      exact (congrArg _ (funext fun a => match a with | ⟨0, _⟩ => rfl | ⟨1, _⟩ => rfl | ⟨2, _⟩ => rfl)).trans (ref_g2 hf b t k)
  | ⟨3, _⟩ =>
    refine (concatenate_apply_piece (t := S4x2048x4x256) (2 : Fin 4) _ _ _ 3 (by show 3 < 4; norm_num) S4x2048x1x256 _ rfl rfl 3 rfl (ix4 b t 0 k) (fun a ha => ?_) rfl).trans ?_
    · match a with | ⟨0, _⟩ => rfl | ⟨1, _⟩ => rfl | ⟨2, _⟩ => exact absurd rfl ha | ⟨3, _⟩ => rfl
    · rw [val_main_v66_apply]
      exact (congrArg _ (funext fun a => match a with | ⟨0, _⟩ => rfl | ⟨1, _⟩ => rfl | ⟨2, _⟩ => rfl)).trans (ref_g3 hf b t k)
end

section
variable (x0 : (⟨S4x2048x2048, .f32⟩ : BufTy).Contents (Elt Ideal)) (x1 : (⟨S4x2048x1024, .bf16⟩ : BufTy).Contents (Elt Ideal))
  (x2 : (⟨S4x2048x1024, .f32⟩ : BufTy).Contents (Elt Ideal)) (x3 : (⟨S1x4x256x256, .f32⟩ : BufTy).Contents (Elt Ideal))
  (x4 : (⟨S1x1024, .f32⟩ : BufTy).Contents (Elt Ideal)) (x5 : (⟨S1x2048x2048, .f32⟩ : BufTy).Contents (Elt Ideal))

/-- The pool's output at a token: a group's deviations by the group's matrix, scaled. -/
def pooled (b : Fin 4) (t : Fin 2048) (g : Fin 4) (j : Fin 256) : EReal :=
  dotn (fun k => dev x2 (wnd g) b t (chan g k)) (fun k => x3 (ix4 0 g k j)) * x4 (ix2 0 (chan g j))

theorem ref_pool (hf : Finite x2) (b : Fin 4) (t : Fin 2048) (g : Fin 4) (j : Fin 256) :
    val_main_v73 (F := Ideal) x2 x3 x4 (ix3 b t (chan g j)) = pooled x2 x3 x4 b t g j := by
  rw [val_main_v73_apply, val_main_v70_apply, val_main_v72_apply, val_main_v71_apply, val_main_v2_apply]
  unfold pooled
  have hb := b.isLt
  have ht := t.isLt
  have hg := g.isLt
  have hj := j.isLt
  refine congrArg₂ (fun p q : EReal => p * q) ?_ (congrArg x4 (funext fun a => match a with | ⟨0, _⟩ => rfl | ⟨1, _⟩ => Fin.ext (by simp; omega)))
  rw [show idx_main_v70 (ix3 b t (chan g j)) = ix4 b t g j from funext fun a => match a with
    | ⟨0, _⟩ => Fin.ext (by show ((b.val * 2048 + t.val) * 1024 + (256 * g.val + j.val)) / 2097152 = b.val; omega)
    | ⟨1, _⟩ => Fin.ext (by show ((b.val * 2048 + t.val) * 1024 + (256 * g.val + j.val)) / 1024 % 2048 = t.val; omega)
    | ⟨2, _⟩ => Fin.ext (by show ((b.val * 2048 + t.val) * 1024 + (256 * g.val + j.val)) / 256 % 4 = g.val; omega)
    | ⟨3, _⟩ => Fin.ext (by show ((b.val * 2048 + t.val) * 1024 + (256 * g.val + j.val)) % 256 = j.val; omega),
    val_main_v69_apply, val_main_v68_apply]
  refine Finset.sum_congr rfl fun k _ => (mul_comm _ _).trans (congrArg₂ (· * ·) ?_ ?_)
  · exact (congrArg _ (funext fun a => match a with | ⟨0, _⟩ => rfl | ⟨1, _⟩ => rfl | ⟨2, _⟩ => rfl | ⟨3, _⟩ => rfl)).trans
      (ref_groups hf b t k g)
  · have hk := k.isLt
    rw [val_main_v1_apply]
    refine congrArg x3 (funext fun a => match a with | ⟨0, _⟩ => rfl | ⟨1, _⟩ => Fin.ext ?_ | ⟨2, _⟩ => Fin.ext ?_ | ⟨3, _⟩ => Fin.ext ?_)
    · show ((g.val * 256 + k.val) * 256 + j.val) / 65536 % 4 = g.val
      omega
    · show ((g.val * 256 + k.val) * 256 + j.val) / 256 % 256 = k.val
      omega
    · show ((g.val * 256 + k.val) * 256 + j.val) % 256 = j.val
      omega

/-- The pool's output by channel. -/
def pooledAt (b : Fin 4) (t : Fin 2048) (e : Fin 1024) : EReal :=
  pooled x2 x3 x4 b t ⟨e.val / 256, by omega⟩ ⟨e.val % 256, by omega⟩

/-- A row of the result: the residual, the attention's share and the pool's. -/
def outRow (R : Fin 8192) (n : Fin 2048) : EReal :=
  let b : Fin 4 := ⟨R.val / 2048, by omega⟩
  let t : Fin 2048 := ⟨R.val % 2048, by omega⟩
  x0 (ix3 b t n) + dotn (fun k : Fin 1024 => x1 (ix3 b t k)) (fun k => x5 (ix3 0 (⟨k.val, by omega⟩ : Fin 2048) n))
    + dotn (pooledAt x2 x3 x4 b t) (fun k : Fin 1024 => x5 (ix3 0 (⟨1024 + k.val, by omega⟩ : Fin 2048) n))

theorem weight_at (k n : Fin 2048) (j : S2048x2048.Idx) (h0 : (j 0).val = k.val) (h1 : (j 1).val = n.val) :
    val_main_v76 (F := Ideal) x5 j = x5 (ix3 0 k n) := by
  rw [val_main_v76_apply]
  have hk := k.isLt
  have hn := n.isLt
  refine congrArg x5 (funext fun a => match a with | ⟨0, _⟩ => rfl | ⟨1, _⟩ => Fin.ext ?_ | ⟨2, _⟩ => Fin.ext ?_)
  · show ((j 0).val * 2048 + (j 1).val) / 2048 % 2048 = k.val
    rw [h0, h1]; omega
  · show ((j 0).val * 2048 + (j 1).val) % 2048 = n.val
    rw [h0, h1]; omega

theorem ref_out (hf : Finite x2) (b : Fin 4) (t n : Fin 2048) : val_main_v78 (F := Ideal) x0 x1 x2 x3 x4 x5 (ix3 b t n)
    = x0 (ix3 b t n) + dotn (fun k : Fin 1024 => x1 (ix3 b t k)) (fun k => x5 (ix3 0 (⟨k.val, by omega⟩ : Fin 2048) n))
      + dotn (pooledAt x2 x3 x4 b t) (fun k : Fin 1024 => x5 (ix3 0 (⟨1024 + k.val, by omega⟩ : Fin 2048) n)) := by
  rw [val_main_v78_apply, val_main_v77_apply]
  show x0 (ix3 b t n) + _ = _
  rw [add_assoc]
  refine congrArg (fun s : EReal => x0 (ix3 b t n) + s) ?_
  refine (Fin.sum_univ_add (a := 1024) (b := 1024) _).trans ?_
  unfold val_main_v75
  refine congrArg₂ (· + ·) (Finset.sum_congr rfl fun k _ => congrArg₂ (· * ·) ?_ ?_) (Finset.sum_congr rfl fun k _ => congrArg₂ (· * ·) ?_ ?_)
  · refine (concatenate_pair_apply_left (t := S4x2048x2048) (s₁ := S4x2048x1024) (s₂ := S4x2048x1024) (2 : Fin 3) _ _ _ _ rfl (ix3 b t k) (fun a => ?_)).trans ?_
    · match a with | ⟨0, _⟩ => rfl | ⟨1, _⟩ => rfl | ⟨2, _⟩ => rfl
    · rfl
  · exact weight_at x5 ⟨k.val, by omega⟩ n _ rfl rfl
  · refine (concatenate_pair_apply_right (t := S4x2048x2048) (s₁ := S4x2048x1024) (s₂ := S4x2048x1024) (2 : Fin 3) _ _ _ _ rfl rfl (ix3 b t k) (fun a ha => ?_) ?_).trans ?_
    · match a with | ⟨0, _⟩ => rfl | ⟨1, _⟩ => rfl | ⟨2, _⟩ => exact absurd rfl ha
    · exact Nat.add_comm _ _
    · have hk := k.isLt
      unfold pooledAt
      rw [← ref_pool x2 x3 x4 hf]
      exact congrArg _ (funext fun a => match a with
        | ⟨0, _⟩ => rfl | ⟨1, _⟩ => rfl | ⟨2, _⟩ => Fin.ext (by show k.val = 256 * (k.val / 256) + k.val % 256; omega))
  · exact weight_at x5 ⟨1024 + k.val, by omega⟩ n _ rfl rfl

theorem ref_rows (hf : Finite x2) (R : Fin 8192) (n : Fin 2048) :
    val_main_v79 (F := Ideal) x0 x1 x2 x3 x4 x5 (ix2 R n) = outRow x0 x1 x2 x3 x4 x5 R n := by
  rw [val_main_v79_apply]
  unfold outRow
  rw [← ref_out x0 x1 x2 x3 x4 x5 hf]
  have hR := R.isLt
  have hn := n.isLt
  refine congrArg _ (funext fun a => match a with | ⟨0, _⟩ => Fin.ext ?_ | ⟨1, _⟩ => Fin.ext ?_ | ⟨2, _⟩ => Fin.ext ?_)
  · show (R.val * 2048 + n.val) / 4194304 = R.val / 2048
    omega
  · show (R.val * 2048 + n.val) / 2048 % 2048 = R.val % 2048
    omega
  · show (R.val * 2048 + n.val) % 2048 = n.val
    omega
end

end Cert.OutV
-- ==== Proof.Out.Pay.lean ====
module
public import proofs.«01_k».proof.Proof.Gen.OutIdeal.Value
public import proofs.«01_k».proof.Proof.Out.RefRead

/-! # What one step of the pool and output projection computes, value by value -/

set_option maxRecDepth 16384

@[expose] public section
noncomputable section

namespace Cert.OutV

open Idealize.ShloMosaic Cert.OutIdeal Cert.OutIdeal.Gen
open scoped BigOperators

/-- The literal one. -/
abbrev one32 : EReal := Ideal.ofBits .f32 0x3F800000#32

theorem pay1_apply (y : FVec Ideal S512x2048 .f32) (z : Vec Ideal S512x1024 .bf16) (w : Vec Ideal S1024x2048 .bf16) (r : Fin 512) (n : Fin 2048) :
    k0_pay1 (F := Ideal) y z w (ix2 r n) = y (ix2 r n) + dotn (fun k => z (ix2 r k)) (fun k => w (ix2 k n)) := by
  unfold dotn
  unfold_payloads
  pointwise

theorem pay2_apply (x : Vec Ideal S512x2048 .f32) (o : Vec Ideal S512x1024 .bf16) (w : Vec Ideal S1024x2048 .bf16) (r : Fin 512) (n : Fin 2048) :
    k0_pay2 (F := Ideal) x o w (ix2 r n) = x (ix2 r n) + dotn (fun k => o (ix2 r k)) (fun k => w (ix2 k n)) := by
  unfold dotn
  unfold_payloads
  pointwise

theorem pay3_apply (i : grid0.Coords) (h : Vec Ideal S16x1024 .f32) (q : Fin 16) (d : Fin 1024) :
    k0_pay3 (F := Ideal) i h (ix2 q d) = if (i 1).val = 0 then 0 else h (ix2 q d) := by
  unfold k0_pay3
  simp only [shapeCast_self]
  have h1 : (i 1).val < 4 := (i 1).isLt
  by_cases hi : (i 1).val = 0
  · rw [if_pos hi, hi]
    show Ideal.ofBits .f32 0x00000000#32 = 0
    exact Ideal.ofBits_zero_f32
  · rw [if_neg hi]
    have hc : Scalar.cmpi .eq (BitVec.ofNat 32 (i 1).val) 0#32 = 0#1 := by
      generalize (i 1).val = n at hi h1
      interval_cases n
      · exact absurd rfl hi
      · decide
      · decide
      · decide
    rw [hc]
    rfl

theorem pay4_eq (u : Vec Ideal S512x1024 .f32) : k0_pay4 (F := Ideal) u = u := by
  unfold k0_pay4
  simp only [shapeCast_self]

theorem place_word : ∀ i : Fin 4, ∀ r : Fin 512, IntOp.addi (IntOp.muli (BitVec.ofNat 32 i.val) 512#32) (BitVec.ofNat 32 r.val)
    = IntOp.addi 0#32 (BitVec.ofNat 32 (512 * i.val + r.val)) := by decide +kernel

theorem pay5_apply (i : grid0.Coords) (r : Fin 512) :
    k0_pay5 i (ix2 r 0) = IntOp.addi 0#32 (BitVec.ofNat 32 (512 * (i 1).val + r.val)) := by
  unfold k0_pay5
  show IntOp.addi _ (iota .tc S512x1 32 [0] iota_S512x1_d0_w32 (ix2 r 0)) = _
  rw [iota_single_apply]
  exact place_word (i 1) r

theorem pay7_apply (i : grid0.Coords) (r : Fin 512) :
    FloatOps.sitofp (F := Ideal) .f32 (k0_pay7 i (ix2 r 0)) = cnt 2 (512 * (i 1).val + r.val) := by
  show FloatOps.sitofp (F := Ideal) .f32 (IntOp.minsi 2#32 (IntOp.addi (k0_pay5 i (ix2 r 0)) 1#32)) = _
  rw [pay5_apply]
  rfl

/-- One group's output at a token: the deviations by the group's matrix, scaled. -/
def groupOut (a : Fin 256 → EReal) (wp : Vec Ideal S1x256x256 .bf16) (sc : Vec Ideal S1x256 .f32) (j : Fin 256) : EReal :=
  dotn a (fun k => wp (ix3 0 k j)) * sc (ix2 0 j)

section
variable (v24 : IVec S512x1 32) (wp : Vec Ideal S1x256x256 .bf16) (sc : Vec Ideal S1x256 .f32) (r : Fin 512) (j : Fin 256)

theorem pay8_apply (v25 : Vec Ideal S512x256 .f32) (v27 : FVec Ideal S512x256 .f32) (v31 : IVec S512x1 32) :
    k0_pay8 (F := Ideal) v25 v27 v31 wp sc (ix2 r j)
      = groupOut (fun k => v27 (ix2 r k) * Ideal.div one32 (FloatOps.sitofp (F := Ideal) .f32 (v31 (ix2 r 0))) - v25 (ix2 r k)) wp sc j := by
  unfold groupOut dotn one32
  unfold_payloads
  pointwise

theorem pay10_apply (a : FVec Ideal S512x256 .bf16) :
    k0_pay10 (F := Ideal) a wp sc (ix2 r j) = groupOut (fun k => a (ix2 r k)) wp sc j := by
  unfold groupOut dotn
  unfold_payloads
  pointwise

theorem pay12_apply (u : Vec Ideal S512x256 .f32) (a : FVec Ideal S512x256 .f32) :
    k0_pay12 (F := Ideal) u a wp sc (ix2 r j) = groupOut (fun k => a (ix2 r k) - u (ix2 r k)) wp sc j := by
  unfold groupOut dotn
  unfold_payloads
  pointwise

/-- The count of a window as a step's words give it. -/
abbrev cntv (w : ℕ) : EReal :=
  FloatOps.sitofp (F := Ideal) .f32 (IntOp.minsi (BitVec.ofNat 32 w) (IntOp.addi (v24 (ix2 r 0)) 1#32))

theorem pay9_apply (f : ℕ → Vec Ideal S512x256 .f32) (k : Fin 256) : k0_pay9 (F := Ideal) v24 (f 0) (f 1) (f 2) (f 3) (ix2 r k)
    = (∑ s ∈ Finset.range 4, f s (ix2 r k)) * Ideal.div one32 (cntv v24 r 4) - f 0 (ix2 r k) := by
  simp only [Finset.sum_range_succ, Finset.sum_range_zero, zero_add]
  unfold one32
  unfold_payloads
  pointwise

theorem pay11_apply (f : ℕ → Vec Ideal S512x256 .f32) (k : Fin 256) :
    k0_pay11 (F := Ideal) v24 (f 0) (f 1) (f 2) (f 3) (f 4) (f 5) (f 6) (f 7) (ix2 r k)
      = (∑ s ∈ Finset.range 8, f s (ix2 r k)) * Ideal.div one32 (cntv v24 r 8) := by
  simp only [Finset.sum_range_succ, Finset.sum_range_zero, zero_add]
  unfold one32
  unfold_payloads
  pointwise

theorem pay13_apply (f : ℕ → Vec Ideal S512x256 .f32) (k : Fin 256) :
    k0_pay13 (F := Ideal) (f 0) (f 1) (f 2) (f 3) (f 4) (f 5) (f 6) (f 7) (f 8) (ix2 r k) = ∑ s ∈ Finset.range 9, f s (ix2 r k) := by
  simp only [Finset.sum_range_succ, Finset.sum_range_zero, zero_add]
  unfold_payloads
  pointwise

/-- The last group's deviations: the sum of the first nine tokens is carried in. -/
theorem pay14_apply (f : ℕ → Vec Ideal S512x256 .f32) (p : FVec Ideal S512x256 .f32) :
    k0_pay14 (F := Ideal) v24 (f 0) p (f 9) (f 10) (f 11) (f 12) (f 13) (f 14) (f 15) wp sc (ix2 r j)
      = groupOut (fun k => (((((((p (ix2 r k) + f 9 (ix2 r k)) + f 10 (ix2 r k)) + f 11 (ix2 r k)) + f 12 (ix2 r k)) + f 13 (ix2 r k))
          + f 14 (ix2 r k)) + f 15 (ix2 r k)) * Ideal.div one32 (cntv v24 r 16) - f 0 (ix2 r k)) wp sc j := by
  unfold groupOut dotn one32
  unfold_payloads
  pointwise
end

end Cert.OutV
-- ==== Proof.Out.Case.lean ====
module
public import proofs.«01_k».proof.Proof.Out.Pay
public import Idealize.ShloMosaic.Lib.Pipeline.ValueKit.Acc

/-! # What one step of the pool and output projection writes

The halo rows and the tile's tokens lie above each other in one buffer, so a group's window is a sum of shifted loads from it; the
four groups' outputs lie side by side in another. -/

set_option maxRecDepth 16384

@[expose] public section
noncomputable section

namespace Cert.OutV

open Idealize.ShloMosaic Idealize.ShloMosaic.Tactic Cert.OutIdeal Cert.OutIdeal.Gen Idealize.ShloMosaic.TcCoe
open scoped BigOperators

section
variable (i : grid0.Coords) (u : Vec Ideal S512x1024 .f32) (h : Vec Ideal S16x1024 .f32)

/-- The halo over the tile, by row and channel. -/
def above (q d : ℕ) : EReal :=
  if hd : d < 1024 then
    if hq : q < 16 then if (i 1).val = 0 then 0 else h (ix2 ⟨q, hq⟩ ⟨d, hd⟩)
    else if hq' : q < 528 then u (ix2 ⟨q - 16, by omega⟩ ⟨d, hd⟩) else 0
  else 0

/-- A load of 512 rows and 256 channels of the two. -/
def window (o0 o1 : ℕ) : Vec Ideal S512x256 .f32 := fun y => above i u h (o0 + (y 0).val) (o1 + (y 1).val)

/-- Two blocks of rows above each other, at a row of the lower one and at a row of the upper one. -/
theorem canon_low (A : Vec Ideal S512x1024 .f32) (L : List (View.Piece (Elt Ideal) S528x1024 .f32)) {inb1} (y : S528x1024.Idx) (q : Fin 512)
    (d : Fin 1024) (h0 : (y 0).val = 16 + q.val) (h1 : (y 1).val = d.val) :
    View.canon (⟨Rect.unit (s := S528x1024) ![16, 0] ![512, 1024] inb1, A⟩ :: L) y = A (ix2 q d) := by
  have e : y = (Rect.unit (s := S528x1024) ![16, 0] ![512, 1024] inb1).emb (ix2 q d) := by
    funext a
    match a with
    | ⟨0, _⟩ => exact Fin.ext (h0.trans (by show 16 + q.val = 16 + 1 * q.val; omega))
    | ⟨1, _⟩ => exact Fin.ext (h1.trans (by show d.val = 0 + 1 * d.val; omega))
  rw [e]
  exact View.canon_cons_emb (Rect.unit (s := S528x1024) ![16, 0] ![512, 1024] inb1) A L (ix2 q d)

theorem canon_high (A : Vec Ideal S512x1024 .f32) (B : Vec Ideal S16x1024 .f32) {inb0 inb1} (y : S528x1024.Idx) (q : Fin 16)
    (d : Fin 1024) (h0 : (y 0).val = q.val) (h1 : (y 1).val = d.val) :
    View.canon (Val := Elt Ideal) (e := .f32) [⟨Rect.unit (s := S528x1024) ![16, 0] ![512, 1024] inb1, A⟩, ⟨Rect.unit (s := S528x1024) ![0, 0] ![16, 1024] inb0, B⟩] y
      = B (ix2 q d) := by
  have hq := q.isLt
  refine (View.canon_cons_of_not_mem _ _ fun hm => ?_).trans ?_
  · have hm' : y ∈ (Rect.unit (s := S528x1024) ![16, 0] ![512, 1024] inb1).set := hm
    have := (Rect.mem_set_unit.1 hm' 0).1
    change 16 ≤ (y 0).val at this
    omega
  · have e : y = (Rect.unit (s := S528x1024) ![0, 0] ![16, 1024] inb0).emb (ix2 q d) := by
      funext a
      match a with
      | ⟨0, _⟩ => exact Fin.ext (h0.trans (by show q.val = 0 + 1 * q.val; omega))
      | ⟨1, _⟩ => exact Fin.ext (h1.trans (by show d.val = 0 + 1 * d.val; omega))
    rw [e]
    exact View.canon_cons_emb (Rect.unit (s := S528x1024) ![0, 0] ![16, 1024] inb0) B [] (ix2 q d)

theorem canon_above {inb0 inb1} (y : S528x1024.Idx) : View.canon (Val := Elt Ideal) (e := .f32) [⟨Rect.unit (s := S528x1024) ![16, 0] ![512, 1024] inb1, k0_pay4 (F := Ideal) u⟩,
      ⟨Rect.unit (s := S528x1024) ![0, 0] ![16, 1024] inb0, k0_pay3 (F := Ideal) i h⟩] y = above i u h (y 0).val (y 1).val := by
  have y0 : (y 0).val < 528 := (y 0).isLt
  have y1 : (y 1).val < 1024 := (y 1).isLt
  unfold above
  rw [dif_pos y1]
  by_cases hq : (y 0).val < 16
  · rw [dif_pos hq]
    exact (canon_high _ _ y ⟨(y 0).val, hq⟩ ⟨(y 1).val, y1⟩ rfl rfl).trans (pay3_apply i h _ _)
  · rw [dif_neg hq, dif_pos y0]
    exact (canon_low _ _ y ⟨(y 0).val - 16, by omega⟩ ⟨(y 1).val, y1⟩ (by show (y 0).val = 16 + ((y 0).val - 16); omega) rfl).trans
      (congrFun (pay4_eq u) _)

theorem load_ext {κ : Kind} {sp : Space} (v : View sig κ sp S528x1024 .f32) (o0 o1 : ℕ) {inb inb0 inb1} :
    v.readCov (Val := Elt Ideal) [⟨Rect.unit ![16, 0] ![512, 1024] inb1, k0_pay4 u⟩, ⟨Rect.unit ![0, 0] ![16, 1024] inb0, k0_pay3 i h⟩]
      (Rect.unit (s := S528x1024) ![o0, o1] ![512, 256] inb).toLoadRect = window i u h o0 o1 := by
  refine (View.readCov_eq_canon' _ _ _).trans (funext fun y => ?_)
  refine (canon_above i u h _).trans ?_
  show above i u h (o0 + 1 * (y 0).val) (o1 + 1 * (y 1).val) = _
  rw [one_mul, one_mul]
  rfl
end

/-- The four groups' outputs side by side, read at a channel. -/
theorem load_pool (P0 P1 P2 P3 : FVec Ideal S512x256 .bf16) {inb inb0 inb1 inb2 inb3} (r : Fin 512) (g : Fin 4) (j : Fin 256) :
    (View.whole cc0_scratch1).readCov (Val := Elt Ideal)
      [⟨Rect.unit ![0, 768] ![512, 256] inb3, P3⟩, ⟨Rect.unit ![0, 512] ![512, 256] inb2, P2⟩, ⟨Rect.unit ![0, 256] ![512, 256] inb1, P1⟩,
        ⟨Rect.unit ![0, 0] ![512, 256] inb0, P0⟩]
      (Rect.unit (s := S512x1024) ![0, 0] ![512, 1024] inb).toLoadRect (ix2 r (chan g j)) = (![P0, P1, P2, P3] g) (ix2 r j) := by
  rw [View.readCov_eq_canon']
  have hj := j.isLt
  have hr := r.isLt
  have key : ∀ (o : ℕ) {inbo} (P : FVec Ideal S512x256 .bf16) (L : List (View.Piece (Elt Ideal) S512x1024 .bf16)), o = 256 * g.val →
      View.canon (⟨Rect.unit ![0, o] ![512, 256] inbo, P⟩ :: L)
        ((Rect.unit (s := S512x1024) ![0, 0] ![512, 1024] inb).toLoadRect.idx (ix2 r (chan g j))) = P (ix2 r j) := by
    intro o inbo P L ho
    refine Eq.trans (congrArg _ ?_) (View.canon_cons_emb (Rect.unit (s := S512x1024) ![0, o] ![512, 256] inbo) P L (ix2 r j))
    funext a
    match a with
    | ⟨0, _⟩ => rfl
    | ⟨1, _⟩ => exact Fin.ext (by show 0 + 1 * (256 * g.val + j.val) = o + 1 * j.val; omega)
  have skip : ∀ (o : ℕ) {inbo} (P : FVec Ideal S512x256 .bf16) (L : List (View.Piece (Elt Ideal) S512x1024 .bf16)), 256 * g.val + 256 ≤ o →
      View.canon (⟨Rect.unit ![0, o] ![512, 256] inbo, P⟩ :: L)
        ((Rect.unit (s := S512x1024) ![0, 0] ![512, 1024] inb).toLoadRect.idx (ix2 r (chan g j)))
      = View.canon L ((Rect.unit (s := S512x1024) ![0, 0] ![512, 1024] inb).toLoadRect.idx (ix2 r (chan g j))) := by
    intro o inbo P L ho
    refine View.canon_cons_of_not_mem _ _ fun hm => ?_
    have hm' : _ ∈ (Rect.unit (s := S512x1024) ![0, o] ![512, 256] inbo).set := hm
    have := (Rect.mem_set_unit.1 hm' 1).1
    change o ≤ 0 + 1 * (256 * g.val + j.val) at this
    omega
  match g with
  | ⟨0, _⟩ => exact (skip 768 _ _ (by norm_num)).trans ((skip 512 _ _ (by norm_num)).trans ((skip 256 _ _ (by norm_num)).trans (key 0 _ _ rfl)))
  | ⟨1, _⟩ => exact (skip 768 _ _ (by norm_num)).trans ((skip 512 _ _ (by norm_num)).trans (key 256 _ _ rfl))
  | ⟨2, _⟩ => exact (skip 768 _ _ (by norm_num)).trans (key 512 _ _ rfl)
  | ⟨3, _⟩ => exact key 768 _ _ rfl

section
variable (i : grid0.Coords) (x0 : Vec Ideal S512x2048 .f32) (x1 : Vec Ideal S512x1024 .bf16) (x2 : Vec Ideal S512x1024 .f32)
  (x3 : Vec Ideal S16x1024 .f32) (x4 : Vec Ideal S4x256x256 .bf16) (x5 : Vec Ideal S1x1024 .f32) (x6 : Vec Ideal S2048x2048 .bf16)

/-- A group's deviation at a row of the tile. -/
def tileDev (r : Fin 512) (g : Fin 4) (k : Fin 256) : EReal :=
  (∑ s ∈ Finset.range (wnd g), above i x2 x3 (16 - s + r.val) (256 * g.val + k.val)) * Ideal.div 1 (cnt (wnd g) (512 * (i 1).val + r.val))
    - above i x2 x3 (16 + r.val) (256 * g.val + k.val)

/-- A group's output at a row of the tile. -/
def tilePool (r : Fin 512) (g : Fin 4) (j : Fin 256) : EReal :=
  dotn (tileDev i x2 x3 r g) (fun k => x4 (ix3 g k j)) * x5 (ix2 0 (chan g j))

theorem ld_mat (g : Fin 4) (o : ℕ) (ho : o = g.val) {inb} (k j : Fin 256) :
    View.ld x4 (Rect.unit (s := S4x256x256) ![o, 0, 0] ![1, 256, 256] inb) (ix3 0 k j) = x4 (ix3 g k j) := by
  subst ho
  show x4 _ = x4 _
  congr 1
  funext a
  match a with
  | ⟨0, _⟩ => rfl
  | ⟨1, _⟩ => exact Fin.ext (by show 0 + 1 * k.val = k.val; omega)
  | ⟨2, _⟩ => exact Fin.ext (by show 0 + 1 * j.val = j.val; omega)

theorem ld_scale (g : Fin 4) (o : ℕ) (ho : o = 256 * g.val) {inb} (j : Fin 256) :
    View.ld x5 (Rect.unit (s := S1x1024) ![0, o] ![1, 256] inb) (ix2 0 j) = x5 (ix2 0 (chan g j)) := by
  subst ho
  show x5 _ = x5 _
  congr 1
  funext a
  match a with
  | ⟨0, _⟩ => rfl
  | ⟨1, _⟩ => exact Fin.ext (by show 256 * g.val + 1 * j.val = 256 * g.val + j.val; omega)

theorem ld_weight (o : ℕ) (ho : o + 1024 ≤ 2048) {inb} (k : Fin 1024) (n : Fin 2048) :
    View.ld x6 (Rect.unit (s := S2048x2048) ![o, 0] ![1024, 2048] inb) (ix2 k n) = x6 (ix2 ⟨o + k.val, by omega⟩ n) := by
  show x6 _ = x6 _
  congr 1
  funext a
  match a with
  | ⟨0, _⟩ => exact Fin.ext (by show o + 1 * k.val = o + k.val; omega)
  | ⟨1, _⟩ => exact Fin.ext (by show 0 + 1 * n.val = n.val; omega)

theorem group_eq (r : Fin 512) (g : Fin 4) (j : Fin 256) (a : Fin 256 → EReal) (om os : ℕ) (hm : om = g.val) (hs : os = 256 * g.val) {inbm inbs}
    (ha : ∀ k, a k = tileDev i x2 x3 r g k) :
    groupOut a (View.ld x4 (Rect.unit (s := S4x256x256) ![om, 0, 0] ![1, 256, 256] inbm))
      (View.ld x5 (Rect.unit (s := S1x1024) ![0, os] ![1, 256] inbs)) j = tilePool i x2 x3 x4 x5 r g j := by
  unfold groupOut tilePool
  rw [funext ha, ld_scale x5 g os hs]
  exact congrArg (fun w => dotn _ w * _) (funext fun k => ld_mat x4 g om hm k j)

theorem one32_eq : one32 = 1 := Cert.Attn.ofBits_one

theorem cntv_eq (r : Fin 512) (w : ℕ) : cntv (k0_pay5 i) r w = cnt w (512 * (i 1).val + r.val) := by
  unfold cntv
  rw [pay5_apply]
  rfl

theorem dev_two (r : Fin 512) (k : Fin 256) :
    k0_pay6 (F := Ideal) (window i x2 x3 16 0) (window i x2 x3 15 0) (ix2 r k) * Ideal.div 1 (cnt 2 (512 * (i 1).val + r.val))
      - window i x2 x3 16 0 (ix2 r k) = tileDev i x2 x3 r 0 k := by
  unfold tileDev
  refine congrArg (fun p : EReal => p * _ - _) ?_
  refine Eq.trans ?_ (Finset.sum_range_succ _ 1).symm
  rw [Finset.sum_range_one]
  rfl

theorem dev_four (r : Fin 512) (k : Fin 256) :
    (∑ s ∈ Finset.range 4, window i x2 x3 (16 - s) 256 (ix2 r k)) * Ideal.div one32 (cntv (k0_pay5 i) r 4) - window i x2 x3 (16 - 0) 256 (ix2 r k)
      = tileDev i x2 x3 r 1 k := by
  rw [one32_eq, cntv_eq]
  rfl

theorem dev_eight (r : Fin 512) (k : Fin 256) :
    (∑ s ∈ Finset.range 8, window i x2 x3 (16 - s) 512 (ix2 r k)) * Ideal.div one32 (cntv (k0_pay5 i) r 8) - window i x2 x3 (16 - 0) 512 (ix2 r k)
      = tileDev i x2 x3 r 2 k := by
  rw [one32_eq, cntv_eq]
  rfl

theorem dev_sixteen (r : Fin 512) (k : Fin 256) :
    ((((((((∑ s ∈ Finset.range 9, window i x2 x3 (16 - s) 768 (ix2 r k)) + window i x2 x3 (16 - 9) 768 (ix2 r k))
        + window i x2 x3 (16 - 10) 768 (ix2 r k)) + window i x2 x3 (16 - 11) 768 (ix2 r k)) + window i x2 x3 (16 - 12) 768 (ix2 r k))
        + window i x2 x3 (16 - 13) 768 (ix2 r k)) + window i x2 x3 (16 - 14) 768 (ix2 r k)) + window i x2 x3 (16 - 15) 768 (ix2 r k))
      * Ideal.div one32 (cntv (k0_pay5 i) r 16) - window i x2 x3 (16 - 0) 768 (ix2 r k) = tileDev i x2 x3 r 3 k := by
  rw [one32_eq, cntv_eq, ← Finset.sum_range_succ _ 9, ← Finset.sum_range_succ _ 10, ← Finset.sum_range_succ _ 11, ← Finset.sum_range_succ _ 12,
    ← Finset.sum_range_succ _ 13, ← Finset.sum_range_succ _ 14, ← Finset.sum_range_succ _ 15]
  rfl

theorem last_sum (r : Fin 512) (k : Fin 256) : k0_pay13 (F := Ideal) (window i x2 x3 16 768) (window i x2 x3 15 768) (window i x2 x3 14 768) (window i x2 x3 13 768) (window i x2 x3 12 768) (window i x2 x3 11 768) (window i x2 x3 10 768) (window i x2 x3 9 768) (window i x2 x3 8 768) (ix2 r k)
    = ∑ s ∈ Finset.range 9, window i x2 x3 (16 - s) 768 (ix2 r k) :=
  pay13_apply r (fun s => window i x2 x3 (16 - s) 768) k

theorem last_group (wp : Vec Ideal S1x256x256 .bf16) (sc : Vec Ideal S1x256 .f32) (r : Fin 512) (j : Fin 256) :
    k0_pay14 (F := Ideal) (k0_pay5 i) (window i x2 x3 16 768) (k0_pay13 (F := Ideal) (window i x2 x3 16 768) (window i x2 x3 15 768) (window i x2 x3 14 768) (window i x2 x3 13 768) (window i x2 x3 12 768) (window i x2 x3 11 768) (window i x2 x3 10 768) (window i x2 x3 9 768) (window i x2 x3 8 768))
      (window i x2 x3 7 768) (window i x2 x3 6 768) (window i x2 x3 5 768) (window i x2 x3 4 768) (window i x2 x3 3 768) (window i x2 x3 2 768) (window i x2 x3 1 768) wp sc (ix2 r j)
      = groupOut (fun k => tileDev i x2 x3 r 3 k) wp sc j := by
  have h := pay14_apply (k0_pay5 i) wp sc r j (fun s => window i x2 x3 (16 - s) 768) (k0_pay13 (F := Ideal) (window i x2 x3 16 768) (window i x2 x3 15 768) (window i x2 x3 14 768) (window i x2 x3 13 768) (window i x2 x3 12 768) (window i x2 x3 11 768) (window i x2 x3 10 768) (window i x2 x3 9 768) (window i x2 x3 8 768))
  simp only [last_sum] at h
  exact h.trans (congrArg (fun a => groupOut a wp sc j) (funext fun k => dev_sixteen i x2 x3 r k))

/-- A row of what a step writes. -/
def rowOut (r : Fin 512) (n : Fin 2048) : EReal :=
  x0 (ix2 r n) + dotn (fun k : Fin 1024 => x1 (ix2 r k)) (fun k => x6 (ix2 ⟨0 + k.val, by omega⟩ n))
    + dotn (fun k : Fin 1024 => tilePool i x2 x3 x4 x5 r ⟨k.val / 256, by omega⟩ ⟨k.val % 256, by omega⟩)
      (fun k => x6 (ix2 ⟨1024 + k.val, by omega⟩ n))
end

variable (m : (ℓ : Loc nD τ sig) → Buf (Elt Ideal) ℓ) (c : Dev nD) (t : Fin cfg0.N)

theorem step_row (r : Fin 512) (n : Fin 2048) : outsAt0 m c t (ix2 r n)
    = rowOut (grid0.coords t) (iblk m c 0 t) (iblk m c 1 t) (iblk m c 2 t) (iblk m c 3 t) (iblk m c 4 t) (iblk m c 5 t) (iblk m c 6 t) r n := by
  unfold outsAt0
  frame_out
  simp only [load_ext]
  refine (pay1_apply _ _ _ r n).trans ?_
  unfold rowOut
  refine congrArg₂ (· + ·) ((pay2_apply _ _ _ r n).trans ?_) (congrArg₂ dotn (funext fun k => ?_) (funext fun k => ?_))
  · exact congrArg (fun w => _ + dotn _ w) (funext fun k => ld_weight _ 0 (by norm_num) k n)
  · refine (congrArg _ ?_).trans ((load_pool _ _ _ _ r ⟨k.val / 256, by omega⟩ ⟨k.val % 256, by omega⟩).trans ?_)
    · funext a
      match a with
      | ⟨0, _⟩ => rfl
      | ⟨1, _⟩ => exact Fin.ext (by show k.val = 256 * (k.val / 256) + k.val % 256; omega)
    · generalize (⟨k.val / 256, by omega⟩ : Fin 4) = g
      generalize (⟨k.val % 256, by omega⟩ : Fin 256) = j
      match g with
      | ⟨0, _⟩ =>
        refine (pay8_apply _ _ r j _ _ _).trans (group_eq _ _ _ _ _ r 0 j _ 0 0 rfl rfl fun k => ?_)
        rw [pay7_apply, one32_eq]
        exact dev_two _ _ _ r k
      | ⟨1, _⟩ =>
        refine (pay10_apply _ _ r j _).trans (group_eq _ _ _ _ _ r 1 j _ 1 256 rfl rfl fun k => ?_)
        exact (pay9_apply _ r (fun s => window (grid0.coords t) (iblk m c 2 t) (iblk m c 3 t) (16 - s) 256) k).trans (dev_four _ _ _ r k)
      | ⟨2, _⟩ =>
        refine (pay12_apply _ _ r j _ _).trans (group_eq _ _ _ _ _ r 2 j _ 2 512 rfl rfl fun k => ?_)
        exact (congrArg (fun p : EReal => p - _)
          (pay11_apply _ r (fun s => window (grid0.coords t) (iblk m c 2 t) (iblk m c 3 t) (16 - s) 512) k)).trans (dev_eight _ _ _ r k)
      | ⟨3, _⟩ =>
        exact (last_group _ _ _ _ _ r j).trans (group_eq _ _ _ _ _ r 3 j _ 3 768 rfl rfl fun k => rfl)
  · exact ld_weight _ 1024 (by norm_num) k n

end Cert.OutV
-- ==== Proof.Out.Claim.lean ====
module
public import proofs.«01_k».proof.Defs
public import proofs.«01_k».proof.Proof.Gen.Pre_finite_u
public import proofs.«01_k».proof.Proof.Attn.Equal
public import proofs.«01_k».proof.Proof.Ffn.Blocks
public import proofs.«01_k».proof.Proof.Out.Case
public import proofs.«01_k».proof.Proof.Gen.OutRefIdeal.Run

/-! # The pool and output projection's claims -/

set_option maxRecDepth 16384

@[expose] public section
noncomputable section

namespace Cert.OutV

open Idealize.ShloMosaic Cert.OutIdeal Cert.OutIdeal.Gen Idealize.ShloMosaic.TcCoe Idealize.SL.Sem Cert.FfnV
open scoped BigOperators

/-- The grid point of a row block. -/
abbrev step (i : Fin 16) : Fin cfg0.N := ⟨i.val, by show _ < grid0.N; rw [show grid0.N = 16 from by decide]; omega⟩

section
variable (m : (ℓ : Loc nD τ sig) → Buf (Elt Ideal) ℓ) (c : Dev nD)

theorem V_x : V m c main_v0 = shapeCast S8192x2048 (m ((c : Thread nD τ).loc main_arg0)) shapeCasts_S4x2048x2048_S8192x2048 := by
  dsimp only [V, hostOps0]; after_results; rfl

theorem V_o : V m c main_v1 = shapeCast S8192x1024 (m ((c : Thread nD τ).loc main_arg1)) shapeCasts_S4x2048x1024_S8192x1024 := by
  dsimp only [V, hostOps0]; after_results; rfl

theorem V_u : V m c main_v2 = shapeCast S8192x1024 (m ((c : Thread nD τ).loc main_arg2)) shapeCasts_S4x2048x1024_S8192x1024 := by
  dsimp only [V, hostOps0]; after_results; rfl

theorem V_mat : V m c main_v4 = truncf (F := Ideal) .bf16 (φ := .f32) (shapeCast S4x256x256 (m ((c : Thread nD τ).loc main_arg3))
    shapeCasts_S1x4x256x256_S4x256x256) bitsLt_bf16_f32 := by
  dsimp only [V, hostOps0]; after_results; rfl

theorem V_scale : V m c main_v6 = shapeCast S1x1024 (shapeCast S1024 (m ((c : Thread nD τ).loc main_arg4)) shapeCasts_S1x1024_S1024)
    shapeCasts_S1024_S1x1024 := by
  dsimp only [V, hostOps0]; after_results; rfl

theorem V_w : V m c main_v8 = truncf (F := Ideal) .bf16 (φ := .f32) (shapeCast S2048x2048 (m ((c : Thread nD τ).loc main_arg5))
    shapeCasts_S1x2048x2048_S2048x2048) bitsLt_bf16_f32 := by
  dsimp only [V, hostOps0]; after_results; rfl

/-- The block every window reads or writes at a grid point, and the tile's place in its batch. -/
theorem idx_facts : ∀ t : Fin cfg0.N, win0_0.index t = ![t.val, 0] ∧ win0_1.index t = ![t.val, 0] ∧ win0_2.index t = ![t.val, 0]
    ∧ win0_3.index t = ![t.val * 32 - 1, 0] ∧ win0_4.index t = ![0, 0, 0] ∧ win0_5.index t = ![0, 0] ∧ win0_6.index t = ![0, 0]
    ∧ win0_7.index t = ![t.val, 0] ∧ (grid0.coords t 1).val = t.val % 4 ∧ (cfg0.win 7).flush t = true :=
  (by decide +kernel : ∀ t : Fin grid0.N, _)

/-- Tokens by batch and position, read from the rows of all batches. -/
theorem merge_tokens {e : EltTy} (x : Vec Ideal S4x2048x1024 e) (h) (R : Fin 8192) (d : Fin 1024) :
    shapeCast S8192x1024 x h (ix2 R d) = x (ix3 (⟨R.val / 2048, by omega⟩ : Fin 4) (⟨R.val % 2048, by omega⟩ : Fin 2048) d) := by
  refine shapeCast_apply _ _ _ _ ?_
  rw [Shape.rowMajor_val_three, Shape.rowMajor_val_two]
  show (R.val / 2048 * 2048 + R.val % 2048) * 1024 + d.val = R.val * 1024 + d.val
  omega

theorem drop_mat (x : Vec Ideal S1x4x256x256 .f32) (h) (g : Fin 4) (k j : Fin 256) :
    shapeCast S4x256x256 x h (ix3 g k j) = x (ix4 0 g k j) := by
  refine shapeCast_apply _ _ _ _ ?_
  rw [Shape.rowMajor_val_four, Shape.rowMajor_val_three]
  show ((0 * 4 + g.val) * 256 + k.val) * 256 + j.val = (g.val * 256 + k.val) * 256 + j.val
  omega

theorem blk_x (i : Fin 16) (r : Fin 512) (e : Fin 2048) : iblk m c 0 (step i) (ix2 r e)
    = m ((c : Thread nD τ).loc main_arg0) (ix3 (⟨(rowOf i r).val / 2048, by omega⟩ : Fin 4) (⟨(rowOf i r).val % 2048, by omega⟩ : Fin 2048) e) := by
  show V m c main_v0 (((cfg0.win 0).blk (step i)).view.emb (ix2 r e)) = _
  have hi := (idx_facts (step i)).1
  rw [at2 (((cfg0.win 0).blk (step i)).view.emb (ix2 r e)) (rowOf i r) e
    (by show win0_0.index (step i) 0 * 512 + 1 * r.val = _; rw [hi]; show i.val * 512 + 1 * r.val = 512 * i.val + r.val; omega)
    (by show win0_0.index (step i) 1 * 2048 + 1 * e.val = _; rw [hi]; show 0 * 2048 + 1 * e.val = e.val; omega), V_x]
  exact merge_rows _ _ _ _

theorem blk_o (i : Fin 16) (r : Fin 512) (d : Fin 1024) : iblk m c 1 (step i) (ix2 r d)
    = m ((c : Thread nD τ).loc main_arg1) (ix3 (⟨(rowOf i r).val / 2048, by omega⟩ : Fin 4) (⟨(rowOf i r).val % 2048, by omega⟩ : Fin 2048) d) := by
  show V m c main_v1 (((cfg0.win 1).blk (step i)).view.emb (ix2 r d)) = _
  have hi := (idx_facts (step i)).2.1
  rw [at2 (((cfg0.win 1).blk (step i)).view.emb (ix2 r d)) (rowOf i r) d
    (by show win0_1.index (step i) 0 * 512 + 1 * r.val = _; rw [hi]; show i.val * 512 + 1 * r.val = 512 * i.val + r.val; omega)
    (by show win0_1.index (step i) 1 * 1024 + 1 * d.val = _; rw [hi]; show 0 * 1024 + 1 * d.val = d.val; omega), V_o]
  exact merge_tokens _ _ _ _

theorem blk_u (i : Fin 16) (r : Fin 512) (d : Fin 1024) : iblk m c 2 (step i) (ix2 r d)
    = m ((c : Thread nD τ).loc main_arg2) (ix3 (⟨(rowOf i r).val / 2048, by omega⟩ : Fin 4) (⟨(rowOf i r).val % 2048, by omega⟩ : Fin 2048) d) := by
  show V m c main_v2 (((cfg0.win 2).blk (step i)).view.emb (ix2 r d)) = _
  have hi := (idx_facts (step i)).2.2.1
  rw [at2 (((cfg0.win 2).blk (step i)).view.emb (ix2 r d)) (rowOf i r) d
    (by show win0_2.index (step i) 0 * 512 + 1 * r.val = _; rw [hi]; show i.val * 512 + 1 * r.val = 512 * i.val + r.val; omega)
    (by show win0_2.index (step i) 1 * 1024 + 1 * d.val = _; rw [hi]; show 0 * 1024 + 1 * d.val = d.val; omega), V_u]
  exact merge_tokens _ _ _ _

/-- The halo: the sixteen rows that end where the tile begins. -/
theorem blk_halo (i : Fin 16) (hpos : i.val ≠ 0) (q : Fin 16) (d : Fin 1024) (R : Fin 8192) (hR : R.val = 512 * i.val - 16 + q.val) :
    iblk m c 3 (step i) (ix2 q d)
      = m ((c : Thread nD τ).loc main_arg2) (ix3 (⟨R.val / 2048, by omega⟩ : Fin 4) (⟨R.val % 2048, by omega⟩ : Fin 2048) d) := by
  show V m c main_v2 (((cfg0.win 3).blk (step i)).view.emb (ix2 q d)) = _
  have hi := (idx_facts (step i)).2.2.2.1
  rw [at2 (((cfg0.win 3).blk (step i)).view.emb (ix2 q d)) R d
    (by show win0_3.index (step i) 0 * 16 + 1 * q.val = _; rw [hi]; show (i.val * 32 - 1) * 16 + 1 * q.val = R.val; omega)
    (by show win0_3.index (step i) 1 * 1024 + 1 * d.val = _; rw [hi]; show 0 * 1024 + 1 * d.val = d.val; omega), V_u]
  exact merge_tokens _ _ _ _

theorem blk_mat (t : Fin cfg0.N) (g : Fin 4) (k j : Fin 256) :
    iblk m c 4 t (ix3 g k j) = m ((c : Thread nD τ).loc main_arg3) (ix4 0 g k j) := by
  show V m c main_v4 (((cfg0.win 4).blk t).view.emb (ix3 g k j)) = _
  have hi := (idx_facts t).2.2.2.2.1
  rw [at3 (((cfg0.win 4).blk t).view.emb (ix3 g k j)) g k j
    (by show win0_4.index t 0 * 4 + 1 * g.val = _; rw [hi]; show 0 * 4 + 1 * g.val = g.val; omega)
    (by show win0_4.index t 1 * 256 + 1 * k.val = _; rw [hi]; show 0 * 256 + 1 * k.val = k.val; omega)
    (by show win0_4.index t 2 * 256 + 1 * j.val = _; rw [hi]; show 0 * 256 + 1 * j.val = j.val; omega), V_mat, ValueIdx.truncf_apply]
  exact drop_mat _ _ _ _ _

theorem blk_scale (t : Fin cfg0.N) (d : Fin 1024) : iblk m c 5 t (ix2 0 d) = m ((c : Thread nD τ).loc main_arg4) (ix2 0 d) := by
  show V m c main_v6 (((cfg0.win 5).blk t).view.emb (ix2 0 d)) = _
  have hi := (idx_facts t).2.2.2.2.2.1
  rw [at2 (((cfg0.win 5).blk t).view.emb (ix2 0 d)) 0 d
    (by show win0_5.index t 0 * 1 + 1 * 0 = _; rw [hi]; rfl)
    (by show win0_5.index t 1 * 1024 + 1 * d.val = _; rw [hi]; show 0 * 1024 + 1 * d.val = d.val; omega), V_scale, shapeCast_shapeCast]

theorem blk_w (t : Fin cfg0.N) (k n : Fin 2048) :
    iblk m c 6 t (ix2 k n) = m ((c : Thread nD τ).loc main_arg5) (ix3 0 k n) := by
  show V m c main_v8 (((cfg0.win 6).blk t).view.emb (ix2 k n)) = _
  have hi := (idx_facts t).2.2.2.2.2.2.1
  rw [at2 (((cfg0.win 6).blk t).view.emb (ix2 k n)) k n
    (by show win0_6.index t 0 * 2048 + 1 * k.val = _; rw [hi]; show 0 * 2048 + 1 * k.val = k.val; omega)
    (by show win0_6.index t 1 * 2048 + 1 * n.val = _; rw [hi]; show 0 * 2048 + 1 * n.val = n.val; omega), V_w, ValueIdx.truncf_apply]
  exact drop_one _ _ _ _

/-- The halo over the tile holds the batch's tokens from sixteen before the tile on, zero before the first. -/
theorem above_tok (i : Fin 16) (q : ℕ) (h1 : 1 ≤ q) (h2 : q < 528) (d : Fin 1024) :
    above (grid0.coords (step i)) (iblk m c 2 (step i)) (iblk m c 3 (step i)) q d.val
      = tok (m ((c : Thread nD τ).loc main_arg2)) (⟨i.val / 4, by omega⟩ : Fin 4) d (512 * (i.val % 4) + q - 1) := by
  have hc : (grid0.coords (step i) 1).val = i.val % 4 := (idx_facts (step i)).2.2.2.2.2.2.2.2.1
  have hi := i.isLt
  unfold above tok
  rw [dif_pos d.isLt, hc]
  by_cases hq : q < 16
  · rw [dif_pos hq]
    by_cases h0 : i.val % 4 = 0
    · rw [if_pos h0, dif_pos (by omega)]
    · rw [if_neg h0, dif_neg (by omega), dif_pos (by omega)]
      refine (blk_halo m c i (by omega) ⟨q, hq⟩ d ⟨512 * i.val - 16 + q, by omega⟩ rfl).trans (congrArg _ ?_)
      exact at3 _ _ _ _ (by show (512 * i.val - 16 + q) / 2048 = i.val / 4; omega)
        (by show (512 * i.val - 16 + q) % 2048 = 512 * (i.val % 4) + q - 1 - 15; omega) rfl
  · rw [dif_neg hq, dif_pos h2, dif_neg (by omega), dif_pos (by omega)]
    refine (blk_u m c i ⟨q - 16, by omega⟩ d).trans (congrArg _ ?_)
    exact at3 _ _ _ _ (by show (512 * i.val + (q - 16)) / 2048 = i.val / 4; omega)
      (by show (512 * i.val + (q - 16)) % 2048 = 512 * (i.val % 4) + q - 1 - 15; omega) rfl

theorem wnd_le : ∀ g : Fin 4, wnd g ≤ 16 := by decide

theorem dev_eq (i : Fin 16) (r : Fin 512) (g : Fin 4) (k : Fin 256) :
    tileDev (grid0.coords (step i)) (iblk m c 2 (step i)) (iblk m c 3 (step i)) r g k
      = dev (m ((c : Thread nD τ).loc main_arg2)) (wnd g) (⟨(rowOf i r).val / 2048, by omega⟩ : Fin 4)
          (⟨(rowOf i r).val % 2048, by omega⟩ : Fin 2048) (chan g k) := by
  have hc : (grid0.coords (step i) 1).val = i.val % 4 := (idx_facts (step i)).2.2.2.2.2.2.2.2.1
  have hi := i.isLt
  have hr := r.isLt
  have hw := wnd_le g
  have hb : (⟨(rowOf i r).val / 2048, by omega⟩ : Fin 4) = ⟨i.val / 4, by omega⟩ := Fin.ext (by show (512 * i.val + r.val) / 2048 = i.val / 4; omega)
  have ht : (⟨(rowOf i r).val % 2048, by omega⟩ : Fin 2048) = ⟨512 * (i.val % 4) + r.val, by omega⟩ :=
    Fin.ext (by show (512 * i.val + r.val) % 2048 = 512 * (i.val % 4) + r.val; omega)
  rw [hb, ht]
  unfold tileDev dev
  rw [hc]
  refine congrArg₂ (fun a b : EReal => a * _ - b) (Finset.sum_congr rfl fun s hs => ?_) ?_
  · have hs' := Finset.mem_range.1 hs
    refine (above_tok m c i (16 - s + r.val) (by omega) (by omega) (chan g k)).trans (congrArg _ ?_)
    show 512 * (i.val % 4) + (16 - s + r.val) - 1 = 15 + (512 * (i.val % 4) + r.val) - s
    omega
  · refine (above_tok m c i (16 + r.val) (by omega) (by omega) (chan g k)).trans ?_
    unfold tok
    rw [dif_neg (by omega), dif_pos (by omega)]
    exact congrArg _ (at3 _ _ _ _ rfl (by show 512 * (i.val % 4) + (16 + r.val) - 1 - 15 = 512 * (i.val % 4) + r.val; omega) rfl)

/-- A step writes the rows of its block. -/
theorem row_eq (i : Fin 16) (r : Fin 512) (n : Fin 2048) :
    outsAt0 m c (step i) (ix2 r n)
      = outRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (rowOf i r) n := by
  refine (step_row m c (step i) r n).trans ?_
  unfold rowOut outRow
  refine congrArg₂ (· + ·) (congrArg₂ (· + ·) (blk_x m c i r n) (congrArg₂ dotn (funext fun k => blk_o m c i r k) (funext fun k => ?_)))
    (congrArg₂ dotn (funext fun k => ?_) (funext fun k => blk_w m c _ _ n))
  · refine (blk_w m c _ _ n).trans (congrArg _ (at3 _ _ _ _ rfl (Nat.zero_add _) rfl))
  · unfold pooledAt tilePool pooled
    rw [blk_scale m c (step i)]
    refine congrArg (fun a : EReal => a * _) (congrArg₂ dotn (funext fun j => dev_eq m c i r _ j) (funext fun j => blk_mat m c _ _ j _))

theorem out_cell (i : Fin 16) (r : Fin 512) (n : Fin 2048) : (dats m 0 c).arrAt 7 cfg0.N (ix2 (rowOf i r) n)
    = outRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (rowOf i r) n := by
  have hb := congrFun (Value.blocks7 m c (step i) (idx_facts _).2.2.2.2.2.2.2.2.2) (ix2 r n)
  rw [Value.flushed7] at hb
  have hi : win0_7.index (step i) = ![i.val, 0] := (idx_facts (step i)).2.2.2.2.2.2.2.1
  rw [← at2 (((cfg0.win 7).blk (step i)).view.emb (ix2 r n)) (rowOf i r) n
    (by show win0_7.index (step i) 0 * 512 + 1 * r.val = _; rw [hi]; show i.val * 512 + 1 * r.val = 512 * i.val + r.val; omega)
    (by show win0_7.index (step i) 1 * 2048 + 1 * n.val = _; rw [hi]; show 0 * 2048 + 1 * n.val = n.val; omega)]
  exact hb.trans (row_eq m c i r n)

/-- Two arrays of rows that agree on every row of every block are one. -/
theorem blocks_ext {f g : S8192x2048.Idx → EReal} (h : ∀ (i : Fin 16) (r : Fin 512) (n : Fin 2048), f (ix2 (rowOf i r) n) = g (ix2 (rowOf i r) n)) :
    f = g := by
  funext y
  have h0 : (y 0).val < 8192 := (y 0).isLt
  have hy : y = ix2 (rowOf ⟨(y 0).val / 512, by omega⟩ ⟨(y 0).val % 512, by omega⟩) (y 1) :=
    at2 y _ _ (by show (y 0).val = 512 * ((y 0).val / 512) + (y 0).val % 512; omega) rfl
  rw [hy]
  exact h _ _ _
end

theorem frame_finite : Cert.quiescent_OutIdeal_pre_finite_u := fun m ρ _ => Cert.OutIdeal.Gen.frame m ρ

/-- The reference runs, leaves its arguments and ends with every counter at zero. -/
theorem frame_ref : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

theorem frame_ref_finite : Cert.quiescent_OutRefIdeal_pre_finite_u := fun m ρ _ => frame_ref m ρ trivial

theorem algebraic : Cert.algebraic_OutIdeal_OutRefIdeal_pre_finite_u := by
  intro m g m' g' hpre hagree
  refine ⟨fun c => (dats m 0 c).arrAt 7 cfg0.N, Cert.OutIdeal.Value.run_blocks m g, ?_⟩
  refine (θ_run Cert.OutRefIdeal.defs _ _).mono (fun r h c => ⟨?_, (h c).2⟩) (Cert.OutRefIdeal.Value.run (F := Ideal) m' g')
  refine (h c).1.trans ((Cert.OutRefIdeal.Read.val_main_v79_eq m' c).trans ?_)
  obtain ⟨a0, a1, a2, a3, a4, a5⟩ := hagree c
  rw [a0, a1, a2, a3, a4, a5]
  have hf : Finite (m ((c.tc : Thread nD τ).loc main_arg2)) := fun y => by
    obtain ⟨x, hx⟩ := Cert.Attn.real_of _ _ _ (hpre c) y
    rw [hx]
    exact ⟨EReal.coe_ne_top x, EReal.coe_ne_bot x⟩
  refine blocks_ext fun i r n => ?_
  exact (ref_rows _ _ _ _ _ _ hf (rowOf i r) n).trans (out_cell m c i r n).symm

end Cert.OutV
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Pre_finite_u
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Attn.Claim
public import proofs.«01_k».proof.Proof.Ffn.Claim
public import proofs.«01_k».proof.Proof.In.Claim
public import proofs.«01_k».proof.Proof.Out.Claim

@[expose] public section

noncomputable section

namespace Cert.Proof

open Idealize.ShloMosaic Idealize.SL.Sem

/-- The named mask constant is minus infinity at the ideal instance. -/
theorem preserves_attn : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.In.Gen.facts, Cert.InIdeal.Gen.facts,
  Cert.InRefIdeal.Gen.facts, Cert.Out.Gen.facts, Cert.OutIdeal.Gen.facts, Cert.OutRefIdeal.Gen.facts, Cert.Pre_finite.Gen.facts,
  Cert.Pre_finite_u.Gen.facts,
  fun m ρ _ => Cert.Kernel.Gen.frame m ρ, fun m ρ _ => Cert.KernelIdeal.Gen.frame m ρ, Cert.Attn.frame_finite,
  Cert.Attn.frame_ref, Cert.Attn.frame_ref_finite, fun m ρ _ => Cert.Ffn.Gen.frame m ρ, fun m ρ _ => Cert.FfnIdeal.Gen.frame m ρ,
  Cert.FfnV.frame_ref, fun m ρ _ => Cert.In.Gen.frame m ρ, fun m ρ _ => Cert.InIdeal.Gen.frame m ρ, Cert.InV.frame_ref,
  fun m ρ _ => Cert.Out.Gen.frame m ρ, fun m ρ _ => Cert.OutIdeal.Gen.frame m ρ, Cert.OutV.frame_finite, Cert.OutV.frame_ref,
  Cert.OutV.frame_ref_finite, preserves_attn, Cert.Attn.algebraic, trivial, Cert.FfnV.algebraic, trivial, Cert.InV.algebraic, trivial,
  Cert.OutV.algebraic⟩

end Cert.Proof

end
